-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S200x256x14x14 : Shape := ⟨4, ![200, 256, 14, 14]⟩
abbrev S256x256x3x3 : Shape := ⟨4, ![256, 256, 3, 3]⟩
abbrev S256 : Shape := ⟨1, ![256]⟩
abbrev S256x256x2x2 : Shape := ⟨4, ![256, 256, 2, 2]⟩
abbrev S3x256x1x1 : Shape := ⟨4, ![3, 256, 1, 1]⟩
abbrev S3 : Shape := ⟨1, ![3]⟩
abbrev S_ : Shape := ⟨0, ![]⟩
abbrev S200x256x16x16 : Shape := ⟨4, ![200, 256, 16, 16]⟩
abbrev S200x256x256 : Shape := ⟨3, ![200, 256, 256]⟩
abbrev S3x3x256x256 : Shape := ⟨4, ![3, 3, 256, 256]⟩
abbrev S9x256x256 : Shape := ⟨3, ![9, 256, 256]⟩
abbrev S1x9x256x256 : Shape := ⟨4, ![1, 9, 256, 256]⟩
abbrev S4x9x256x256 : Shape := ⟨4, ![4, 9, 256, 256]⟩
abbrev S2x2x256x256 : Shape := ⟨4, ![2, 2, 256, 256]⟩
abbrev S1024x256 : Shape := ⟨2, ![1024, 256]⟩
abbrev S3x256 : Shape := ⟨2, ![3, 256]⟩
abbrev S4x4 : Shape := ⟨2, ![4, 4]⟩
abbrev S4x1x4x1 : Shape := ⟨4, ![4, 1, 4, 1]⟩
abbrev S1x3x1x256 : Shape := ⟨4, ![1, 3, 1, 256]⟩
abbrev S4x3x4x256 : Shape := ⟨4, ![4, 3, 4, 256]⟩
abbrev S12x1024 : Shape := ⟨2, ![12, 1024]⟩
abbrev S16x1024 : Shape := ⟨2, ![16, 1024]⟩
abbrev S1024x8 : Shape := ⟨2, ![1024, 8]⟩
abbrev S256x1 : Shape := ⟨2, ![256, 1]⟩
abbrev S256x4 : Shape := ⟨2, ![256, 4]⟩
abbrev S1 : Shape := ⟨1, ![1]⟩
abbrev S2 : Shape := ⟨1, ![2]⟩
abbrev S1x256 : Shape := ⟨2, ![1, 256]⟩
abbrev S4x256 : Shape := ⟨2, ![4, 256]⟩
abbrev S1024 : Shape := ⟨1, ![1024]⟩
abbrev S1x3 : Shape := ⟨2, ![1, 3]⟩
abbrev S4x3 : Shape := ⟨2, ![4, 3]⟩
abbrev S12 : Shape := ⟨1, ![12]⟩
abbrev S16x51200 : Shape := ⟨2, ![16, 51200]⟩
abbrev S8x256x256 : Shape := ⟨3, ![8, 256, 256]⟩
abbrev S16x2048 : Shape := ⟨2, ![16, 2048]⟩
abbrev S1x2048 : Shape := ⟨2, ![1, 2048]⟩
abbrev S1x256x256 : Shape := ⟨3, ![1, 256, 256]⟩
abbrev S256x256 : Shape := ⟨2, ![256, 256]⟩
abbrev S256x2048 : Shape := ⟨2, ![256, 2048]⟩
abbrev S1x1x256x256 : Shape := ⟨4, ![1, 1, 256, 256]⟩
abbrev S1024x2048 : Shape := ⟨2, ![1024, 2048]⟩
abbrev S1024x1 : Shape := ⟨2, ![1024, 1]⟩
abbrev S16x1 : Shape := ⟨2, ![16, 1]⟩
abbrev S12x51200 : Shape := ⟨2, ![12, 51200]⟩
abbrev S2x2x3x200x16x16 : Shape := ⟨6, ![2, 2, 3, 200, 16, 16]⟩
abbrev S2x2x3x200x14x14 : Shape := ⟨6, ![2, 2, 3, 200, 14, 14]⟩
abbrev S200x3x14x2x14x2 : Shape := ⟨6, ![200, 3, 14, 2, 14, 2]⟩
abbrev S200x3x28x28 : Shape := ⟨4, ![200, 3, 28, 28]⟩

abbrev nBuf : Space → Nat
  | .hbm => 86
  | .vmem => 8
  | .smem => 0
  | _ => 0

abbrev bufTy : (tb : Table) → Fin (tcTables nBuf tb) → BufTy
  | .hbm, ⟨0, _⟩ => ⟨S200x256x14x14, .f32⟩
  | .hbm, ⟨1, _⟩ => ⟨S256x256x3x3, .f32⟩
  | .hbm, ⟨2, _⟩ => ⟨S256, .f32⟩
  | .hbm, ⟨3, _⟩ => ⟨S256x256x3x3, .f32⟩
  | .hbm, ⟨4, _⟩ => ⟨S256, .f32⟩
  | .hbm, ⟨5, _⟩ => ⟨S256x256x3x3, .f32⟩
  | .hbm, ⟨6, _⟩ => ⟨S256, .f32⟩
  | .hbm, ⟨7, _⟩ => ⟨S256x256x3x3, .f32⟩
  | .hbm, ⟨8, _⟩ => ⟨S256, .f32⟩
  | .hbm, ⟨9, _⟩ => ⟨S256x256x2x2, .f32⟩
  | .hbm, ⟨10, _⟩ => ⟨S256, .f32⟩
  | .hbm, ⟨11, _⟩ => ⟨S3x256x1x1, .f32⟩
  | .hbm, ⟨12, _⟩ => ⟨S3, .f32⟩
  | .hbm, ⟨13, _⟩ => ⟨S_, .i32⟩
  | .hbm, ⟨14, _⟩ => ⟨S_, .f32⟩
  | .hbm, ⟨15, _⟩ => ⟨S200x256x16x16, .f32⟩
  | .hbm, ⟨16, _⟩ => ⟨S200x256x256, .f32⟩
  | .hbm, ⟨17, _⟩ => ⟨S3x3x256x256, .f32⟩
  | .hbm, ⟨18, _⟩ => ⟨S9x256x256, .f32⟩
  | .hbm, ⟨19, _⟩ => ⟨S3x3x256x256, .f32⟩
  | .hbm, ⟨20, _⟩ => ⟨S9x256x256, .f32⟩
  | .hbm, ⟨21, _⟩ => ⟨S3x3x256x256, .f32⟩
  | .hbm, ⟨22, _⟩ => ⟨S9x256x256, .f32⟩
  | .hbm, ⟨23, _⟩ => ⟨S3x3x256x256, .f32⟩
  | .hbm, ⟨24, _⟩ => ⟨S9x256x256, .f32⟩
  | .hbm, ⟨25, _⟩ => ⟨S1x9x256x256, .f32⟩
  | .hbm, ⟨26, _⟩ => ⟨S1x9x256x256, .f32⟩
  | .hbm, ⟨27, _⟩ => ⟨S1x9x256x256, .f32⟩
  | .hbm, ⟨28, _⟩ => ⟨S1x9x256x256, .f32⟩
  | .hbm, ⟨29, _⟩ => ⟨S4x9x256x256, .f32⟩
  | .hbm, ⟨30, _⟩ => ⟨S4x9x256x256, .bf16⟩
  | .hbm, ⟨31, _⟩ => ⟨S2x2x256x256, .f32⟩
  | .hbm, ⟨32, _⟩ => ⟨S1024x256, .f32⟩
  | .hbm, ⟨33, _⟩ => ⟨S1024x256, .bf16⟩
  | .hbm, ⟨34, _⟩ => ⟨S3x256, .f32⟩
  | .hbm, ⟨35, _⟩ => ⟨S4x4, .i32⟩
  | .hbm, ⟨36, _⟩ => ⟨S4x4, .i32⟩
  | .hbm, ⟨37, _⟩ => ⟨S_, .i32⟩
  | .hbm, ⟨38, _⟩ => ⟨S4x4, .i32⟩
  | .hbm, ⟨39, _⟩ => ⟨S4x4, .i32⟩
  | .hbm, ⟨40, _⟩ => ⟨S4x4, .i1⟩
  | .hbm, ⟨41, _⟩ => ⟨S4x4, .f32⟩
  | .hbm, ⟨42, _⟩ => ⟨S4x1x4x1, .f32⟩
  | .hbm, ⟨43, _⟩ => ⟨S1x3x1x256, .f32⟩
  | .hbm, ⟨44, _⟩ => ⟨S4x3x4x256, .f32⟩
  | .hbm, ⟨45, _⟩ => ⟨S4x3x4x256, .f32⟩
  | .hbm, ⟨46, _⟩ => ⟨S4x3x4x256, .f32⟩
  | .hbm, ⟨47, _⟩ => ⟨S12x1024, .f32⟩
  | .hbm, ⟨48, _⟩ => ⟨S_, .i32⟩
  | .hbm, ⟨49, _⟩ => ⟨S_, .f32⟩
  | .hbm, ⟨50, _⟩ => ⟨S16x1024, .f32⟩
  | .hbm, ⟨51, _⟩ => ⟨S16x1024, .bf16⟩
  | .hbm, ⟨52, _⟩ => ⟨S_, .f32⟩
  | .hbm, ⟨53, _⟩ => ⟨S1024x8, .f32⟩
  | .hbm, ⟨54, _⟩ => ⟨S256x1, .f32⟩
  | .hbm, ⟨55, _⟩ => ⟨S256x1, .f32⟩
  | .hbm, ⟨56, _⟩ => ⟨S256x1, .f32⟩
  | .hbm, ⟨57, _⟩ => ⟨S256x1, .f32⟩
  | .hbm, ⟨58, _⟩ => ⟨S256x4, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S2, .i32⟩
  | .hbm, ⟨64, _⟩ => ⟨S1024x8, .f32⟩
  | .hbm, ⟨65, _⟩ => ⟨S1x256, .f32⟩
  | .hbm, ⟨66, _⟩ => ⟨S4x256, .f32⟩
  | .hbm, ⟨67, _⟩ => ⟨S1024, .f32⟩
  | .hbm, ⟨68, _⟩ => ⟨S_, .i32⟩
  | .hbm, ⟨69, _⟩ => ⟨S1, .i32⟩
  | .hbm, ⟨70, _⟩ => ⟨S1024x8, .f32⟩
  | .hbm, ⟨71, _⟩ => ⟨S1x3, .f32⟩
  | .hbm, ⟨72, _⟩ => ⟨S4x3, .f32⟩
  | .hbm, ⟨73, _⟩ => ⟨S12, .f32⟩
  | .hbm, ⟨74, _⟩ => ⟨S_, .i32⟩
  | .hbm, ⟨75, _⟩ => ⟨S1, .i32⟩
  | .hbm, ⟨76, _⟩ => ⟨S_, .i32⟩
  | .hbm, ⟨77, _⟩ => ⟨S1, .i32⟩
  | .hbm, ⟨78, _⟩ => ⟨S2, .i32⟩
  | .hbm, ⟨79, _⟩ => ⟨S1024x8, .f32⟩
  | .hbm, ⟨80, _⟩ => ⟨S16x51200, .f32⟩
  | .hbm, ⟨81, _⟩ => ⟨S12x51200, .f32⟩
  | .hbm, ⟨82, _⟩ => ⟨S2x2x3x200x16x16, .f32⟩
  | .hbm, ⟨83, _⟩ => ⟨S2x2x3x200x14x14, .f32⟩
  | .hbm, ⟨84, _⟩ => ⟨S200x3x14x2x14x2, .f32⟩
  | .hbm, ⟨85, _⟩ => ⟨S200x3x28x28, .f32⟩
  | .local _ .vmem, ⟨0, _⟩ => ⟨S8x256x256, .f32⟩
  | .local _ .vmem, ⟨1, _⟩ => ⟨S8x256x256, .f32⟩
  | .local _ .vmem, ⟨2, _⟩ => ⟨S4x9x256x256, .bf16⟩
  | .local _ .vmem, ⟨3, _⟩ => ⟨S1024x256, .bf16⟩
  | .local _ .vmem, ⟨4, _⟩ => ⟨S16x1024, .bf16⟩
  | .local _ .vmem, ⟨5, _⟩ => ⟨S1024x8, .f32⟩
  | .local _ .vmem, ⟨6, _⟩ => ⟨S16x2048, .f32⟩
  | .local _ .vmem, ⟨7, _⟩ => ⟨S16x2048, .f32⟩
  | _, _ => ⟨S200x256x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v26 : Ref sig .tc := ⟨.hbm, 47, rfl⟩
abbrev main_c_1 : Ref sig .tc := ⟨.hbm, 48, rfl⟩
abbrev main_call2_v0 : Ref sig .tc := ⟨.hbm, 49, rfl⟩
abbrev main_v27 : Ref sig .tc := ⟨.hbm, 50, rfl⟩
abbrev main_v28 : Ref sig .tc := ⟨.hbm, 51, rfl⟩
abbrev main_cst : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_2 : Ref sig .tc := ⟨.hbm, 59, rfl⟩
abbrev main_v35 : Ref sig .tc := ⟨.hbm, 60, rfl⟩
abbrev main_c_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_4 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_5 : Ref sig .tc := ⟨.hbm, 74, rfl⟩
abbrev main_v47 : Ref sig .tc := ⟨.hbm, 75, rfl⟩
abbrev main_c_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x9x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S200x256x14x14 : Shape := ⟨4, ![200, 256, 14, 14]⟩
abbrev S256x256x3x3 : Shape := ⟨4, ![256, 256, 3, 3]⟩
abbrev S256 : Shape := ⟨1, ![256]⟩
abbrev S256x256x2x2 : Shape := ⟨4, ![256, 256, 2, 2]⟩
abbrev S3x256x1x1 : Shape := ⟨4, ![3, 256, 1, 1]⟩
abbrev S3 : Shape := ⟨1, ![3]⟩
abbrev S_ : Shape := ⟨0, ![]⟩
abbrev S200x256x16x16 : Shape := ⟨4, ![200, 256, 16, 16]⟩
abbrev S256x256x1x1 : Shape := ⟨4, ![256, 256, 1, 1]⟩
abbrev S256x256 : Shape := ⟨2, ![256, 256]⟩
abbrev S256x200x14x14 : Shape := ⟨4, ![256, 200, 14, 14]⟩
abbrev S1x256x1x1 : Shape := ⟨4, ![1, 256, 1, 1]⟩
abbrev S256x2x2x200x14x14 : Shape := ⟨6, ![256, 2, 2, 200, 14, 14]⟩
abbrev S200x256x14x2x14x2 : Shape := ⟨6, ![200, 256, 14, 2, 14, 2]⟩
abbrev S200x256x28x28 : Shape := ⟨4, ![200, 256, 28, 28]⟩
abbrev S3x256 : Shape := ⟨2, ![3, 256]⟩
abbrev S3x200x28x28 : Shape := ⟨4, ![3, 200, 28, 28]⟩
abbrev S200x3x28x28 : Shape := ⟨4, ![200, 3, 28, 28]⟩
abbrev S1x3x1x1 : Shape := ⟨4, ![1, 3, 1, 1]⟩

abbrev nBuf : Space → Nat
  | .hbm => 296
  | .vmem => 0
  | .smem => 0
  | _ => 0

abbrev hbmTy0_0 (i : Nat) : BufTy := match i % 128 with
  | 0 => ⟨S200x256x14x14, .f32⟩
  | 1 => ⟨S256x256x3x3, .f32⟩
  | 2 => ⟨S256, .f32⟩
  | 3 => ⟨S256x256x3x3, .f32⟩
  | 4 => ⟨S256, .f32⟩
  | 5 => ⟨S256x256x3x3, .f32⟩
  | 6 => ⟨S256, .f32⟩
  | 7 => ⟨S256x256x3x3, .f32⟩
  | 8 => ⟨S256, .f32⟩
  | 9 => ⟨S256x256x2x2, .f32⟩
  | 10 => ⟨S256, .f32⟩
  | 11 => ⟨S3x256x1x1, .f32⟩
  | 12 => ⟨S3, .f32⟩
  | 13 => ⟨S_, .i32⟩
  | 14 => ⟨S_, .f32⟩
  | 15 => ⟨S200x256x16x16, .f32⟩
  | 16 => ⟨S200x256x14x14, .f32⟩
  | 17 => ⟨S256x256x1x1, .f32⟩
  | 18 => ⟨S256x256, .f32⟩
  | 19 => ⟨S256x200x14x14, .f32⟩
  | 20 => ⟨S200x256x14x14, .f32⟩
  | 21 => ⟨S_, .f32⟩
  | 22 => ⟨S200x256x14x14, .f32⟩
  | 23 => ⟨S200x256x14x14, .f32⟩
  | 24 => ⟨S200x256x14x14, .f32⟩
  | 25 => ⟨S256x256x1x1, .f32⟩
  | 26 => ⟨S256x256, .f32⟩
  | 27 => ⟨S256x200x14x14, .f32⟩
  | 28 => ⟨S200x256x14x14, .f32⟩
  | 29 => ⟨S200x256x14x14, .f32⟩
  | 30 => ⟨S200x256x14x14, .f32⟩
  | 31 => ⟨S256x256x1x1, .f32⟩
  | 32 => ⟨S256x256, .f32⟩
  | 33 => ⟨S256x200x14x14, .f32⟩
  | 34 => ⟨S200x256x14x14, .f32⟩
  | 35 => ⟨S200x256x14x14, .f32⟩
  | 36 => ⟨S200x256x14x14, .f32⟩
  | 37 => ⟨S256x256x1x1, .f32⟩
  | 38 => ⟨S256x256, .f32⟩
  | 39 => ⟨S256x200x14x14, .f32⟩
  | 40 => ⟨S200x256x14x14, .f32⟩
  | 41 => ⟨S200x256x14x14, .f32⟩
  | 42 => ⟨S200x256x14x14, .f32⟩
  | 43 => ⟨S256x256x1x1, .f32⟩
  | 44 => ⟨S256x256, .f32⟩
  | 45 => ⟨S256x200x14x14, .f32⟩
  | 46 => ⟨S200x256x14x14, .f32⟩
  | 47 => ⟨S200x256x14x14, .f32⟩
  | 48 => ⟨S200x256x14x14, .f32⟩
  | 49 => ⟨S256x256x1x1, .f32⟩
  | 50 => ⟨S256x256, .f32⟩
  | 51 => ⟨S256x200x14x14, .f32⟩
  | 52 => ⟨S200x256x14x14, .f32⟩
  | 53 => ⟨S200x256x14x14, .f32⟩
  | 54 => ⟨S200x256x14x14, .f32⟩
  | 55 => ⟨S256x256x1x1, .f32⟩
  | 56 => ⟨S256x256, .f32⟩
  | 57 => ⟨S256x200x14x14, .f32⟩
  | 58 => ⟨S200x256x14x14, .f32⟩
  | 59 => ⟨S200x256x14x14, .f32⟩
  | 60 => ⟨S200x256x14x14, .f32⟩
  | 61 => ⟨S256x256x1x1, .f32⟩
  | 62 => ⟨S256x256, .f32⟩
  | 63 => ⟨S256x200x14x14, .f32⟩
  | 64 => ⟨S200x256x14x14, .f32⟩
  | 65 => ⟨S200x256x14x14, .f32⟩
  | 66 => ⟨S200x256x14x14, .f32⟩
  | 67 => ⟨S256x256x1x1, .f32⟩
  | 68 => ⟨S256x256, .f32⟩
  | 69 => ⟨S256x200x14x14, .f32⟩
  | 70 => ⟨S200x256x14x14, .f32⟩
  | 71 => ⟨S200x256x14x14, .f32⟩
  | 72 => ⟨S1x256x1x1, .f32⟩
  | 73 => ⟨S200x256x14x14, .f32⟩
  | 74 => ⟨S200x256x14x14, .f32⟩
  | 75 => ⟨S_, .f32⟩
  | 76 => ⟨S200x256x14x14, .f32⟩
  | 77 => ⟨S200x256x14x14, .f32⟩
  | 78 => ⟨S_, .i32⟩
  | 79 => ⟨S_, .f32⟩
  | 80 => ⟨S200x256x16x16, .f32⟩
  | 81 => ⟨S200x256x14x14, .f32⟩
  | 82 => ⟨S256x256x1x1, .f32⟩
  | 83 => ⟨S256x256, .f32⟩
  | 84 => ⟨S256x200x14x14, .f32⟩
  | 85 => ⟨S200x256x14x14, .f32⟩
  | 86 => ⟨S_, .f32⟩
  | 87 => ⟨S200x256x14x14, .f32⟩
  | 88 => ⟨S200x256x14x14, .f32⟩
  | 89 => ⟨S200x256x14x14, .f32⟩
  | 90 => ⟨S256x256x1x1, .f32⟩
  | 91 => ⟨S256x256, .f32⟩
  | 92 => ⟨S256x200x14x14, .f32⟩
  | 93 => ⟨S200x256x14x14, .f32⟩
  | 94 => ⟨S200x256x14x14, .f32⟩
  | 95 => ⟨S200x256x14x14, .f32⟩
  | 96 => ⟨S256x256x1x1, .f32⟩
  | 97 => ⟨S256x256, .f32⟩
  | 98 => ⟨S256x200x14x14, .f32⟩
  | 99 => ⟨S200x256x14x14, .f32⟩
  | 100 => ⟨S200x256x14x14, .f32⟩
  | 101 => ⟨S200x256x14x14, .f32⟩
  | 102 => ⟨S256x256x1x1, .f32⟩
  | 103 => ⟨S256x256, .f32⟩
  | 104 => ⟨S256x200x14x14, .f32⟩
  | 105 => ⟨S200x256x14x14, .f32⟩
  | 106 => ⟨S200x256x14x14, .f32⟩
  | 107 => ⟨S200x256x14x14, .f32⟩
  | 108 => ⟨S256x256x1x1, .f32⟩
  | 109 => ⟨S256x256, .f32⟩
  | 110 => ⟨S256x200x14x14, .f32⟩
  | 111 => ⟨S200x256x14x14, .f32⟩
  | 112 => ⟨S200x256x14x14, .f32⟩
  | 113 => ⟨S200x256x14x14, .f32⟩
  | 114 => ⟨S256x256x1x1, .f32⟩
  | 115 => ⟨S256x256, .f32⟩
  | 116 => ⟨S256x200x14x14, .f32⟩
  | 117 => ⟨S200x256x14x14, .f32⟩
  | 118 => ⟨S200x256x14x14, .f32⟩
  | 119 => ⟨S200x256x14x14, .f32⟩
  | 120 => ⟨S256x256x1x1, .f32⟩
  | 121 => ⟨S256x256, .f32⟩
  | 122 => ⟨S256x200x14x14, .f32⟩
  | 123 => ⟨S200x256x14x14, .f32⟩
  | 124 => ⟨S200x256x14x14, .f32⟩
  | 125 => ⟨S200x256x14x14, .f32⟩
  | 126 => ⟨S256x256x1x1, .f32⟩
  | 127 => ⟨S256x256, .f32⟩
  | _ => ⟨S200x256x14x14, .f32⟩

abbrev hbmTy0_1 (i : Nat) : BufTy := match i % 128 with
  | 0 => ⟨S256x200x14x14, .f32⟩
  | 1 => ⟨S200x256x14x14, .f32⟩
  | 2 => ⟨S200x256x14x14, .f32⟩
  | 3 => ⟨S200x256x14x14, .f32⟩
  | 4 => ⟨S256x256x1x1, .f32⟩
  | 5 => ⟨S256x256, .f32⟩
  | 6 => ⟨S256x200x14x14, .f32⟩
  | 7 => ⟨S200x256x14x14, .f32⟩
  | 8 => ⟨S200x256x14x14, .f32⟩
  | 9 => ⟨S1x256x1x1, .f32⟩
  | 10 => ⟨S200x256x14x14, .f32⟩
  | 11 => ⟨S200x256x14x14, .f32⟩
  | 12 => ⟨S_, .f32⟩
  | 13 => ⟨S200x256x14x14, .f32⟩
  | 14 => ⟨S200x256x14x14, .f32⟩
  | 15 => ⟨S_, .i32⟩
  | 16 => ⟨S_, .f32⟩
  | 17 => ⟨S200x256x16x16, .f32⟩
  | 18 => ⟨S200x256x14x14, .f32⟩
  | 19 => ⟨S256x256x1x1, .f32⟩
  | 20 => ⟨S256x256, .f32⟩
  | 21 => ⟨S256x200x14x14, .f32⟩
  | 22 => ⟨S200x256x14x14, .f32⟩
  | 23 => ⟨S_, .f32⟩
  | 24 => ⟨S200x256x14x14, .f32⟩
  | 25 => ⟨S200x256x14x14, .f32⟩
  | 26 => ⟨S200x256x14x14, .f32⟩
  | 27 => ⟨S256x256x1x1, .f32⟩
  | 28 => ⟨S256x256, .f32⟩
  | 29 => ⟨S256x200x14x14, .f32⟩
  | 30 => ⟨S200x256x14x14, .f32⟩
  | 31 => ⟨S200x256x14x14, .f32⟩
  | 32 => ⟨S200x256x14x14, .f32⟩
  | 33 => ⟨S256x256x1x1, .f32⟩
  | 34 => ⟨S256x256, .f32⟩
  | 35 => ⟨S256x200x14x14, .f32⟩
  | 36 => ⟨S200x256x14x14, .f32⟩
  | 37 => ⟨S200x256x14x14, .f32⟩
  | 38 => ⟨S200x256x14x14, .f32⟩
  | 39 => ⟨S256x256x1x1, .f32⟩
  | 40 => ⟨S256x256, .f32⟩
  | 41 => ⟨S256x200x14x14, .f32⟩
  | 42 => ⟨S200x256x14x14, .f32⟩
  | 43 => ⟨S200x256x14x14, .f32⟩
  | 44 => ⟨S200x256x14x14, .f32⟩
  | 45 => ⟨S256x256x1x1, .f32⟩
  | 46 => ⟨S256x256, .f32⟩
  | 47 => ⟨S256x200x14x14, .f32⟩
  | 48 => ⟨S200x256x14x14, .f32⟩
  | 49 => ⟨S200x256x14x14, .f32⟩
  | 50 => ⟨S200x256x14x14, .f32⟩
  | 51 => ⟨S256x256x1x1, .f32⟩
  | 52 => ⟨S256x256, .f32⟩
  | 53 => ⟨S256x200x14x14, .f32⟩
  | 54 => ⟨S200x256x14x14, .f32⟩
  | 55 => ⟨S200x256x14x14, .f32⟩
  | 56 => ⟨S200x256x14x14, .f32⟩
  | 57 => ⟨S256x256x1x1, .f32⟩
  | 58 => ⟨S256x256, .f32⟩
  | 59 => ⟨S256x200x14x14, .f32⟩
  | 60 => ⟨S200x256x14x14, .f32⟩
  | 61 => ⟨S200x256x14x14, .f32⟩
  | 62 => ⟨S200x256x14x14, .f32⟩
  | 63 => ⟨S256x256x1x1, .f32⟩
  | 64 => ⟨S256x256, .f32⟩
  | 65 => ⟨S256x200x14x14, .f32⟩
  | 66 => ⟨S200x256x14x14, .f32⟩
  | 67 => ⟨S200x256x14x14, .f32⟩
  | 68 => ⟨S200x256x14x14, .f32⟩
  | 69 => ⟨S256x256x1x1, .f32⟩
  | 70 => ⟨S256x256, .f32⟩
  | 71 => ⟨S256x200x14x14, .f32⟩
  | 72 => ⟨S200x256x14x14, .f32⟩
  | 73 => ⟨S200x256x14x14, .f32⟩
  | 74 => ⟨S1x256x1x1, .f32⟩
  | 75 => ⟨S200x256x14x14, .f32⟩
  | 76 => ⟨S200x256x14x14, .f32⟩
  | 77 => ⟨S_, .f32⟩
  | 78 => ⟨S200x256x14x14, .f32⟩
  | 79 => ⟨S200x256x14x14, .f32⟩
  | 80 => ⟨S_, .i32⟩
  | 81 => ⟨S_, .f32⟩
  | 82 => ⟨S200x256x16x16, .f32⟩
  | 83 => ⟨S200x256x14x14, .f32⟩
  | 84 => ⟨S256x256x1x1, .f32⟩
  | 85 => ⟨S256x256, .f32⟩
  | 86 => ⟨S256x200x14x14, .f32⟩
  | 87 => ⟨S200x256x14x14, .f32⟩
  | 88 => ⟨S_, .f32⟩
  | 89 => ⟨S200x256x14x14, .f32⟩
  | 90 => ⟨S200x256x14x14, .f32⟩
  | 91 => ⟨S200x256x14x14, .f32⟩
  | 92 => ⟨S256x256x1x1, .f32⟩
  | 93 => ⟨S256x256, .f32⟩
  | 94 => ⟨S256x200x14x14, .f32⟩
  | 95 => ⟨S200x256x14x14, .f32⟩
  | 96 => ⟨S200x256x14x14, .f32⟩
  | 97 => ⟨S200x256x14x14, .f32⟩
  | 98 => ⟨S256x256x1x1, .f32⟩
  | 99 => ⟨S256x256, .f32⟩
  | 100 => ⟨S256x200x14x14, .f32⟩
  | 101 => ⟨S200x256x14x14, .f32⟩
  | 102 => ⟨S200x256x14x14, .f32⟩
  | 103 => ⟨S200x256x14x14, .f32⟩
  | 104 => ⟨S256x256x1x1, .f32⟩
  | 105 => ⟨S256x256, .f32⟩
  | 106 => ⟨S256x200x14x14, .f32⟩
  | 107 => ⟨S200x256x14x14, .f32⟩
  | 108 => ⟨S200x256x14x14, .f32⟩
  | 109 => ⟨S200x256x14x14, .f32⟩
  | 110 => ⟨S256x256x1x1, .f32⟩
  | 111 => ⟨S256x256, .f32⟩
  | 112 => ⟨S256x200x14x14, .f32⟩
  | 113 => ⟨S200x256x14x14, .f32⟩
  | 114 => ⟨S200x256x14x14, .f32⟩
  | 115 => ⟨S200x256x14x14, .f32⟩
  | 116 => ⟨S256x256x1x1, .f32⟩
  | 117 => ⟨S256x256, .f32⟩
  | 118 => ⟨S256x200x14x14, .f32⟩
  | 119 => ⟨S200x256x14x14, .f32⟩
  | 120 => ⟨S200x256x14x14, .f32⟩
  | 121 => ⟨S200x256x14x14, .f32⟩
  | 122 => ⟨S256x256x1x1, .f32⟩
  | 123 => ⟨S256x256, .f32⟩
  | 124 => ⟨S256x200x14x14, .f32⟩
  | 125 => ⟨S200x256x14x14, .f32⟩
  | 126 => ⟨S200x256x14x14, .f32⟩
  | 127 => ⟨S200x256x14x14, .f32⟩
  | _ => ⟨S200x256x14x14, .f32⟩

abbrev hbmTy0_2 (i : Nat) : BufTy := match i % 128 with
  | 0 => ⟨S256x256x1x1, .f32⟩
  | 1 => ⟨S256x256, .f32⟩
  | 2 => ⟨S256x200x14x14, .f32⟩
  | 3 => ⟨S200x256x14x14, .f32⟩
  | 4 => ⟨S200x256x14x14, .f32⟩
  | 5 => ⟨S200x256x14x14, .f32⟩
  | 6 => ⟨S256x256x1x1, .f32⟩
  | 7 => ⟨S256x256, .f32⟩
  | 8 => ⟨S256x200x14x14, .f32⟩
  | 9 => ⟨S200x256x14x14, .f32⟩
  | 10 => ⟨S200x256x14x14, .f32⟩
  | 11 => ⟨S1x256x1x1, .f32⟩
  | 12 => ⟨S200x256x14x14, .f32⟩
  | 13 => ⟨S200x256x14x14, .f32⟩
  | 14 => ⟨S_, .f32⟩
  | 15 => ⟨S200x256x14x14, .f32⟩
  | 16 => ⟨S200x256x14x14, .f32⟩
  | 17 => ⟨S256x2x2x200x14x14, .f32⟩
  | 18 => ⟨S200x256x14x2x14x2, .f32⟩
  | 19 => ⟨S200x256x28x28, .f32⟩
  | 20 => ⟨S1x256x1x1, .f32⟩
  | 21 => ⟨S200x256x28x28, .f32⟩
  | 22 => ⟨S200x256x28x28, .f32⟩
  | 23 => ⟨S_, .f32⟩
  | 24 => ⟨S200x256x28x28, .f32⟩
  | 25 => ⟨S200x256x28x28, .f32⟩
  | 26 => ⟨S3x256, .f32⟩
  | 27 => ⟨S3x200x28x28, .f32⟩
  | 28 => ⟨S200x3x28x28, .f32⟩
  | 29 => ⟨S1x3x1x1, .f32⟩
  | 30 => ⟨S200x3x28x28, .f32⟩
  | 31 => ⟨S200x3x28x28, .f32⟩
  | 32 => ⟨S200x3x28x28, .f32⟩
  | 33 => ⟨S200x3x28x28, .f32⟩
  | 34 => ⟨S_, .f32⟩
  | 35 => ⟨S200x3x28x28, .f32⟩
  | 36 => ⟨S200x3x28x28, .f32⟩
  | 37 => ⟨S_, .f32⟩
  | 38 => ⟨S200x3x28x28, .f32⟩
  | 39 => ⟨S200x3x28x28, .f32⟩
  | _ => ⟨S200x256x14x14, .f32⟩

abbrev hbmTy (i : Nat) : BufTy := match i / 128 with
  | 0 => hbmTy0_0 i
  | 1 => hbmTy0_1 i
  | 2 => hbmTy0_2 i
  | _ => ⟨S200x256x14x14, .f32⟩

abbrev bufTy : (tb : Table) → Fin (tcTables nBuf tb) → BufTy
  | .hbm, ⟨i, _⟩ => hbmTy i
  | _, _ => ⟨S200x256x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call1_cst : Ref sig .tc := ⟨.hbm, 75, rfl⟩
abbrev main_call1_v0 : Ref sig .tc := ⟨.hbm, 76, rfl⟩
abbrev main_v59 : Ref sig .tc := ⟨.hbm, 77, rfl⟩
abbrev main_c_0 : Ref sig .tc := ⟨.hbm, 78, rfl⟩
abbrev main_call2_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_1 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_call3_cst : Ref sig .tc := ⟨.hbm, 140, rfl⟩
abbrev main_call3_v0 : Ref sig .tc := ⟨.hbm, 141, rfl⟩
abbrev main_v119 : Ref sig .tc := ⟨.hbm, 142, rfl⟩
abbrev main_c_2 : Ref sig .tc := ⟨.hbm, 143, rfl⟩
abbrev main_call4_v0 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_3 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_call5_cst : Ref sig .tc := ⟨.hbm, 205, rfl⟩
abbrev main_call5_v0 : Ref sig .tc := ⟨.hbm, 206, rfl⟩
abbrev main_v179 : Ref sig .tc := ⟨.hbm, 207, rfl⟩
abbrev main_c_4 : Ref sig .tc := ⟨.hbm, 208, rfl⟩
abbrev main_call6_v0 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_cst_5 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_call7_cst : Ref sig .tc := ⟨.hbm, 270, rfl⟩
abbrev main_call7_v0 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_call8_cst : Ref sig .tc := ⟨.hbm, 279, rfl⟩
abbrev main_call8_v0 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_cst_6 : Ref sig .tc := ⟨.hbm, 290, rfl⟩
abbrev main_v255 : Ref sig .tc := ⟨.hbm, 291, rfl⟩
abbrev main_v256 : Ref sig .tc := ⟨.hbm, 292, rfl⟩
abbrev main_cst_7 : Ref sig .tc := ⟨.hbm, 293, rfl⟩
abbrev main_v257 : Ref sig .tc := ⟨.hbm, 294, rfl⟩
abbrev main_v258 : Ref sig .tc := ⟨.hbm, 295, rfl⟩

abbrev nD : Nat := 1
abbrev τ : Topo := Topo.v7x

variable {F : FTy → Type} [FloatOps F]
-- ==== Proof.Spec.lean ====
/-
  The network's arithmetic on plain arrays of extended reals, with no program in sight: one convolution layer on an
  image that carries its border of zeros, the transposed convolution, and the final 1 × 1 convolution.
-/
module

public import Idealize.ShloMosaic.Lib.Pointwise

@[expose] public section

set_option maxRecDepth 16384

noncomputable section

namespace Cert.MaskHead

open Idealize.ShloMosaic

/-- 200 images of 256 channels, 14 × 14 positions. -/
abbrev Images : Shape := ⟨4, ![200, 256, 14, 14]⟩
/-- 200 images of 256 channels, 16 × 16 positions: 14 × 14 with a border of one. -/
abbrev Padded : Shape := ⟨4, ![200, 256, 16, 16]⟩
/-- The weights of a 3 × 3 convolution: output channel, input channel, row, column. -/
abbrev Kernel3 : Shape := ⟨4, ![256, 256, 3, 3]⟩
/-- The weights of the transposed convolution: input channel, output channel, row, column. -/
abbrev Kernel2 : Shape := ⟨4, ![256, 256, 2, 2]⟩
/-- One number per channel. -/
abbrev Bias : Shape := ⟨1, ![256]⟩
/-- The weights of the last convolution: output channel, input channel, row, column. -/
abbrev Kernel1 : Shape := ⟨4, ![3, 256, 1, 1]⟩
/-- One number per output channel of the last convolution. -/
abbrev Bias3 : Shape := ⟨1, ![3]⟩

/-- The images with a border of zeros. -/
def bordered (x : FVec Ideal Images .f32) : FVec Ideal Padded .f32 := fun i =>
  if hi : (1 ≤ (i 2).val ∧ (i 2).val ≤ 14) ∧ (1 ≤ (i 3).val ∧ (i 3).val ≤ 14) then
    x (ix4 (i 0) (i 1) (⟨(i 2).val - 1, by omega⟩ : Fin 14) (⟨(i 3).val - 1, by omega⟩ : Fin 14))
  else 0

/-- The part of a convolution that the tap in row `r`, column `c` of the weights adds at output channel `o` and
    position (`h`, `w`) of the 14 × 14 image: a sum over the input channels. -/
def tap (X : FVec Ideal Padded .f32) (W : FVec Ideal Kernel3 .f32) (n : Fin 200) (o : Fin 256) (h w : Fin 14)
    (r c : Fin 3) : EReal :=
  ∑ k : Fin 256, W (ix4 o k r c)
    * X (ix4 n k (⟨h.val + r.val, by omega⟩ : Fin 16) (⟨w.val + c.val, by omega⟩ : Fin 16))

/-- The convolution with its bias: the nine taps, added row by row. -/
def conv (X : FVec Ideal Padded .f32) (W : FVec Ideal Kernel3 .f32) (B : FVec Ideal Bias .f32) (n : Fin 200)
    (o : Fin 256) (h w : Fin 14) : EReal :=
  ((tap X W n o h w 0 0 + tap X W n o h w 0 1 + tap X W n o h w 0 2)
    + (tap X W n o h w 1 0 + tap X W n o h w 1 1 + tap X W n o h w 1 2)
    + (tap X W n o h w 2 0 + tap X W n o h w 2 1 + tap X W n o h w 2 2)) + B (ix1 o)

/-- The next layer's padded images: inside the border the convolution's positive part, on the border zero. -/
def layer (X : FVec Ideal Padded .f32) (W : FVec Ideal Kernel3 .f32) (B : FVec Ideal Bias .f32) :
    FVec Ideal Padded .f32 := fun i =>
  if hi : (1 ≤ (i 2).val ∧ (i 2).val ≤ 14) ∧ (1 ≤ (i 3).val ∧ (i 3).val ≤ 14) then
    max (conv X W B (i 0) (i 1) ⟨(i 2).val - 1, by omega⟩ ⟨(i 3).val - 1, by omega⟩) 0
  else 0

/-- The transposed convolution of stride 2 at one input position, output channel `o` and offset (`a`, `b`) in the
    2 × 2 square that the position becomes: with its bias, and its positive part. -/
def up (X : FVec Ideal Padded .f32) (W : FVec Ideal Kernel2 .f32) (B : FVec Ideal Bias .f32) (n : Fin 200)
    (h w : Fin 16) (o : Fin 256) (a b : Fin 2) : EReal :=
  max ((∑ k : Fin 256, W (ix4 k o a b) * X (ix4 n k h w)) + B (ix1 o)) 0

/-- Inside the border the bordered image is the image. -/
theorem bordered_inside (x : FVec Ideal Images .f32) (n : Fin 200) (k : Fin 256) (h w : Fin 16)
    (hh : 1 ≤ h.val ∧ h.val ≤ 14) (hw : 1 ≤ w.val ∧ w.val ≤ 14) :
    bordered x (ix4 n k h w) = x (ix4 n k (⟨h.val - 1, by omega⟩ : Fin 14) (⟨w.val - 1, by omega⟩ : Fin 14)) :=
  dif_pos (c := (1 ≤ h.val ∧ h.val ≤ 14) ∧ (1 ≤ w.val ∧ w.val ≤ 14)) ⟨hh, hw⟩

/-- On the border it is zero. -/
theorem bordered_border (x : FVec Ideal Images .f32) (n : Fin 200) (k : Fin 256) (h w : Fin 16)
    (hb : ¬((1 ≤ h.val ∧ h.val ≤ 14) ∧ (1 ≤ w.val ∧ w.val ≤ 14))) : bordered x (ix4 n k h w) = 0 :=
  dif_neg (c := (1 ≤ h.val ∧ h.val ≤ 14) ∧ (1 ≤ w.val ∧ w.val ≤ 14)) hb

/-- Inside the border a layer is the convolution's positive part. -/
theorem layer_inside (X : FVec Ideal Padded .f32) (W : FVec Ideal Kernel3 .f32) (B : FVec Ideal Bias .f32) (n : Fin 200)
    (o : Fin 256) (h w : Fin 16) (hh : 1 ≤ h.val ∧ h.val ≤ 14) (hw : 1 ≤ w.val ∧ w.val ≤ 14) :
    layer X W B (ix4 n o h w)
      = max (conv X W B n o (⟨h.val - 1, by omega⟩ : Fin 14) (⟨w.val - 1, by omega⟩ : Fin 14)) 0 :=
  dif_pos (c := (1 ≤ h.val ∧ h.val ≤ 14) ∧ (1 ≤ w.val ∧ w.val ≤ 14)) ⟨hh, hw⟩

/-- On the border it is zero. -/
theorem layer_border (X : FVec Ideal Padded .f32) (W : FVec Ideal Kernel3 .f32) (B : FVec Ideal Bias .f32) (n : Fin 200)
    (o : Fin 256) (h w : Fin 16) (hb : ¬((1 ≤ h.val ∧ h.val ≤ 14) ∧ (1 ≤ w.val ∧ w.val ≤ 14))) :
    layer X W B (ix4 n o h w) = 0 :=
  dif_neg (c := (1 ≤ h.val ∧ h.val ≤ 14) ∧ (1 ≤ w.val ∧ w.val ≤ 14)) hb

end Cert.MaskHead

end
-- ==== Proof.Layer.lean ====
/-
  One convolution layer as a grid point computes it. Eight padded 16 × 16 images lie side by side as 2048 lanes; the nine
  taps are nine matrix products with the lanes shifted by a rotation, and the border lanes are set to zero afterwards.
-/
module

public import proofs.«01_k».proof.Proof.Spec
public import proofs.«01_k».proof.Proof.Gen.KernelIdeal.Skeleton

@[expose] public section

set_option maxRecDepth 16384

noncomputable section

namespace Cert.MaskHead

open Idealize.ShloMosaic Idealize.SL.Sem Cert.KernelIdeal Cert.KernelIdeal.Gen Cert.KernelIdeal.Facts

/-- Three taps of one row: the products with the image shifted left, in place and shifted right. -/
def row (x : FVec Ideal S256x2048 .bf16) (u v w : FVec Ideal S1x1x256x256 .bf16) : FVec Ideal S256x2048 .f32 :=
  addf
    (addf
      (matmul dot_S256x256_S256x2048_S256x2048_1_0_0_1_n_n none (shapeCast S256x256 u shapeCasts_S1x1x256x256_S256x256)
        (dynamicRotate 1 1#32 none x rotates_S256x2048_d1) (constant S256x2048 .f32 0x00000000#32))
      (matmul dot_S256x256_S256x2048_S256x2048_1_0_0_1_n_n none (shapeCast S256x256 v shapeCasts_S1x1x256x256_S256x256)
        x (constant S256x2048 .f32 0x00000000#32)))
    (matmul dot_S256x256_S256x2048_S256x2048_1_0_0_1_n_n none (shapeCast S256x256 w shapeCasts_S1x1x256x256_S256x256)
      (dynamicRotate 1 2047#32 none x rotates_S256x2048_d1) (constant S256x2048 .f32 0x00000000#32))

/-- The convolution over all lanes: three rows of taps, the first and last rotated by one image row, and the bias. -/
def convLanes (x : FVec Ideal S256x2048 .bf16) (w : Fin 9 → FVec Ideal S1x1x256x256 .bf16)
    (b : FVec Ideal S256x1 .f32) : FVec Ideal S256x2048 .f32 :=
  addf
    (addf (addf (dynamicRotate 1 16#32 none (row x (w 0) (w 1) (w 2)) rotates_S256x2048_d1) (row x (w 3) (w 4) (w 5)))
      (dynamicRotate 1 2032#32 none (row x (w 6) (w 7) (w 8)) rotates_S256x2048_d1))
    (broadcastTo S256x2048 (shapeCast S256x1 b shapeCasts_S256x1_S256x1) broadcasts_S256x1_S256x2048)

/-- The positive part, with the border lanes set to zero, as the next layer's input. -/
def clip (y : FVec Ideal S256x2048 .f32) : FVec Ideal S256x2048 .bf16 :=
  truncf .bf16
    (select (broadcastTo S256x2048 (shapeCast S1x2048 k0_pay2 shapeCasts_S1x2048_S1x2048) broadcasts_S1x2048_S256x2048)
      (maximumf y (broadcast S256x2048 (Scalar.ofBits .f32 0x00000000#32)))
      (broadcast S256x2048 (Scalar.ofBits .f32 0x00000000#32)))
    bitsLt_bf16_f32

/-- The lanes inside the border. -/
def Inside (q : Fin 2048) : Prop :=
  (1 ≤ q.val % 256 / 16 ∧ q.val % 256 / 16 ≤ 14) ∧ (1 ≤ q.val % 16 ∧ q.val % 16 ≤ 14)

instance (q : Fin 2048) : Decidable (Inside q) := by unfold Inside; infer_instance

/-- The mask that the body computes from the lane numbers is one exactly on the lanes inside the border. -/
theorem mask_apply (q : Fin 2048) : k0_pay2 (ix2 0 q) = BitVec.ofBool (decide (Inside q)) := by
  pointwise [k0_pay2]
  revert q
  decide +kernel

/-- One row of taps at a lane. -/
theorem row_apply (x : FVec Ideal S256x2048 .bf16) (u v w : FVec Ideal S1x1x256x256 .bf16) (o : Fin 256) (q : Fin 2048) :
    row x u v w (ix2 o q)
      = (∑ k : Fin 256, u (ix4 0 0 o k) * x (ix2 k (⟨(q.val + 2048 - 1) % 2048, by omega⟩ : Fin 2048)))
        + (∑ k : Fin 256, v (ix4 0 0 o k) * x (ix2 k q))
        + ∑ k : Fin 256, w (ix4 0 0 o k) * x (ix2 k (⟨(q.val + 2048 - 2047) % 2048, by omega⟩ : Fin 2048)) := by
  pointwise [row]

/-- The convolution at a lane, by its three rows of taps. -/
theorem convLanes_apply (x : FVec Ideal S256x2048 .bf16) (w : Fin 9 → FVec Ideal S1x1x256x256 .bf16)
    (b : FVec Ideal S256x1 .f32) (o : Fin 256) (q : Fin 2048) :
    convLanes x w b (ix2 o q)
      = row x (w 0) (w 1) (w 2) (ix2 o (⟨(q.val + 2048 - 16) % 2048, by omega⟩ : Fin 2048))
        + row x (w 3) (w 4) (w 5) (ix2 o q)
        + row x (w 6) (w 7) (w 8) (ix2 o (⟨(q.val + 2048 - 2032) % 2048, by omega⟩ : Fin 2048)) + b (ix2 o 0) := by
  pointwise [convLanes]

/-- The masked positive part at a lane. -/
theorem clip_apply (y : FVec Ideal S256x2048 .f32) (o : Fin 256) (q : Fin 2048) :
    clip y (ix2 o q) = if Inside q then max (y (ix2 o q)) 0 else 0 := by
  pointwise [clip]
  rw [mask_apply]
  by_cases h : Inside q <;> simp [h, Scalar.select]

/-- The image that lane `q` of grid point `t` belongs to. -/
def img (t : Fin 25) (q : Fin 2048) : Fin 200 := ⟨8 * t.val + q.val / 256, by omega⟩
/-- The row of lane `q` in its padded image. -/
def hgt (q : Fin 2048) : Fin 16 := ⟨q.val % 256 / 16, by omega⟩
/-- The column of lane `q` in its padded image. -/
def wid (q : Fin 2048) : Fin 16 := ⟨q.val % 16, by omega⟩

/-- Inside the border, the row counted without the border is below 14. -/
theorem hgt_lt {q : Fin 2048} (hq : Inside q) : (hgt q).val - 1 < 14 := by
  have h : (hgt q).val ≤ 14 := hq.1.2
  omega

/-- Inside the border, the column counted without the border is below 14. -/
theorem wid_lt {q : Fin 2048} (hq : Inside q) : (wid q).val - 1 < 14 := by
  have h : (wid q).val ≤ 14 := hq.2.2
  omega

/-- One tap at a lane inside the border is one product with the image read at the shifted lane: the shift stays in the
    lane's own image. -/
theorem tap_lane (X : FVec Ideal Padded .f32) (W : FVec Ideal Kernel3 .f32) (t : Fin 25)
    (x : FVec Ideal S256x2048 .bf16) (w : FVec Ideal S1x1x256x256 .bf16) (r c : Fin 3)
    (hx : ∀ (k : Fin 256) (q : Fin 2048), x (ix2 k q) = X (ix4 (img t q) k (hgt q) (wid q)))
    (hw : ∀ o k : Fin 256, w (ix4 0 0 o k) = W (ix4 o k r c)) (o : Fin 256) (q q' : Fin 2048) (hq : Inside q)
    (hq' : q'.val + 17 = q.val + 16 * r.val + c.val) :
    ∑ k : Fin 256, w (ix4 0 0 o k) * x (ix2 k q')
      = tap X W (img t q) o ⟨(hgt q).val - 1, hgt_lt hq⟩
          ⟨(wid q).val - 1, wid_lt hq⟩ r c := by
  unfold tap
  refine Finset.sum_congr rfl fun k _ => ?_
  rw [hw, hx]
  have h : q'.val / 256 = q.val / 256 ∧ q'.val % 256 / 16 = q.val % 256 / 16 - 1 + r.val
      ∧ q'.val % 16 = q.val % 16 - 1 + c.val := by
    unfold Inside at hq
    have := r.isLt
    have := c.isLt
    have := q.isLt
    have := q'.isLt
    omega
  have e₁ : img t q' = img t q := Fin.ext (by simp only [img]; omega)
  have e₂ : hgt q' = (⟨(hgt q).val - 1 + r.val, by have := hgt_lt hq; have := r.isLt; omega⟩ : Fin 16) :=
    Fin.ext h.2.1
  have e₃ : wid q' = (⟨(wid q).val - 1 + c.val, by have := wid_lt hq; have := c.isLt; omega⟩ : Fin 16) :=
    Fin.ext h.2.2
  rw [e₁, e₂, e₃]

/-- One layer: if the lanes hold the padded images of `X`, the new lanes hold those of the next layer. -/
theorem layer_lanes (X : FVec Ideal Padded .f32) (W : FVec Ideal Kernel3 .f32) (B : FVec Ideal Bias .f32) (t : Fin 25)
    (x : FVec Ideal S256x2048 .bf16) (w : Fin 9 → FVec Ideal S1x1x256x256 .bf16) (b : FVec Ideal S256x1 .f32)
    (hx : ∀ (k : Fin 256) (q : Fin 2048), x (ix2 k q) = X (ix4 (img t q) k (hgt q) (wid q)))
    (hw : ∀ (r c : Fin 3) (o k : Fin 256),
      w ⟨3 * r.val + c.val, by omega⟩ (ix4 0 0 o k) = W (ix4 o k r c))
    (hb : ∀ o : Fin 256, b (ix2 o 0) = B (ix1 o)) (o : Fin 256) (q : Fin 2048) :
    clip (convLanes x w b) (ix2 o q) = layer X W B (ix4 (img t q) o (hgt q) (wid q)) := by
  rw [clip_apply]
  by_cases hq : Inside q
  · rw [if_pos hq, layer_inside X W B (img t q) o (hgt q) (wid q) hq.1 hq.2]
    have key := fun (r c : Fin 3) (q' : Fin 2048) => tap_lane X W t x _ r c hx (hw r c) o q q' hq
    have hlo : 17 ≤ q.val ∧ q.val + 17 < 2048 := by unfold Inside at hq; omega
    rw [convLanes_apply, row_apply, row_apply, row_apply, hb]
    unfold conv
    rw [← key 0 0 ⟨((q.val + 2048 - 16) % 2048 + 2048 - 1) % 2048, by omega⟩ (by simp only [Fin.val_zero]; omega),
      ← key 0 1 ⟨(q.val + 2048 - 16) % 2048, by omega⟩ (by simp only [Fin.val_zero, Fin.val_one]; omega),
      ← key 0 2 ⟨((q.val + 2048 - 16) % 2048 + 2048 - 2047) % 2048, by omega⟩ (by simp only [Fin.val_zero, Fin.val_two]; omega),
      ← key 1 0 ⟨(q.val + 2048 - 1) % 2048, by omega⟩ (by simp only [Fin.val_zero, Fin.val_one]; omega),
      ← key 1 1 q (by simp only [Fin.val_one]),
      ← key 1 2 ⟨(q.val + 2048 - 2047) % 2048, by omega⟩ (by simp only [Fin.val_one, Fin.val_two]; omega),
      ← key 2 0 ⟨((q.val + 2048 - 2032) % 2048 + 2048 - 1) % 2048, by omega⟩ (by simp only [Fin.val_zero, Fin.val_two]; omega),
      ← key 2 1 ⟨(q.val + 2048 - 2032) % 2048, by omega⟩ (by simp only [Fin.val_one, Fin.val_two]; omega),
      ← key 2 2 ⟨((q.val + 2048 - 2032) % 2048 + 2048 - 2047) % 2048, by omega⟩ (by simp only [Fin.val_two]; omega)]
    rfl
  · rw [if_neg hq, layer_border X W B (img t q) o (hgt q) (wid q) hq]

end Cert.MaskHead

end
-- ==== Proof.Block.lean ====
/-
  What one grid point computes, from the five blocks it reads: the four layers one after the other, the transposed
  convolution as one matrix product, and the last convolution as another.
-/
module

public import proofs.«01_k».proof.Proof.Layer
public import proofs.«01_k».proof.Proof.Gen.KernelIdeal.Frame
public import Idealize.ShloMosaic.Lib.Pipeline.ValueKit

@[expose] public section

set_option maxRecDepth 16384

noncomputable section

namespace Cert.MaskHead

open Idealize.ShloMosaic Idealize.SL.Sem Cert.KernelIdeal Cert.KernelIdeal.Gen Cert.KernelIdeal.Facts

variable (x0 : Vec Ideal S8x256x256 .f32) (x1 : Vec Ideal S4x9x256x256 .bf16) (x2 : Vec Ideal S1024x256 .bf16)
    (x3 : Vec Ideal S16x1024 .bf16) (x4 : Vec Ideal S1024x8 .f32)

/-- The nine weight matrices of the first layer, as the body loads them. -/
def taps0 (x1 : Vec Ideal S4x9x256x256 .bf16) : Fin 9 → FVec Ideal S1x1x256x256 .bf16 :=
  ![View.ld x1 r0_8, View.ld x1 r0_9, View.ld x1 r0_10, View.ld x1 r0_11, View.ld x1 r0_12, View.ld x1 r0_13, View.ld x1 r0_14, View.ld x1 r0_15, View.ld x1 r0_16]

/-- The nine weight matrices of the second layer, as the body loads them. -/
def taps1 (x1 : Vec Ideal S4x9x256x256 .bf16) : Fin 9 → FVec Ideal S1x1x256x256 .bf16 :=
  ![View.ld x1 r0_18, View.ld x1 r0_19, View.ld x1 r0_20, View.ld x1 r0_21, View.ld x1 r0_22, View.ld x1 r0_23, View.ld x1 r0_24, View.ld x1 r0_25, View.ld x1 r0_26]

/-- The nine weight matrices of the third layer, as the body loads them. -/
def taps2 (x1 : Vec Ideal S4x9x256x256 .bf16) : Fin 9 → FVec Ideal S1x1x256x256 .bf16 :=
  ![View.ld x1 r0_28, View.ld x1 r0_29, View.ld x1 r0_30, View.ld x1 r0_31, View.ld x1 r0_32, View.ld x1 r0_33, View.ld x1 r0_34, View.ld x1 r0_35, View.ld x1 r0_36]

/-- The nine weight matrices of the fourth layer, as the body loads them. -/
def taps3 (x1 : Vec Ideal S4x9x256x256 .bf16) : Fin 9 → FVec Ideal S1x1x256x256 .bf16 :=
  ![View.ld x1 r0_38, View.ld x1 r0_39, View.ld x1 r0_40, View.ld x1 r0_41, View.ld x1 r0_42, View.ld x1 r0_43, View.ld x1 r0_44, View.ld x1 r0_45, View.ld x1 r0_46]

/-- A 256 × 256 slab of the weight block, loaded through a rectangle of unit strides, at an element. -/
theorem slab_apply (l : Fin 4) (t : Fin 9) (off : Fin 4 → ℕ) (hoff : off = ![l.val, t.val, 0, 0])
    (inb : ∀ a, off a + S1x1x256x256.size a ≤ S4x9x256x256.size a) (o k : Fin 256) :
    (View.ld x1 (Rect.unit (s := S4x9x256x256) off S1x1x256x256.size inb) : FVec Ideal S1x1x256x256 .bf16) (ix4 0 0 o k)
      = x1 (ix4 l t o k) := by
  subst hoff
  pointwise

/-- The first layer's matrix at a tap is that slab of the weight block. -/
theorem taps0_apply (t : Fin 9) (o k : Fin 256) : taps0 x1 t (ix4 0 0 o k) = x1 (ix4 0 t o k) := by
  have h := fun t : Fin 9 => slab_apply x1 0 t _ rfl (by revert t; decide) o k
  fin_cases t
  exacts [h 0, h 1, h 2, h 3, h 4, h 5, h 6, h 7, h 8]

/-- The second layer's matrix at a tap is that slab of the weight block. -/
theorem taps1_apply (t : Fin 9) (o k : Fin 256) : taps1 x1 t (ix4 0 0 o k) = x1 (ix4 1 t o k) := by
  have h := fun t : Fin 9 => slab_apply x1 1 t _ rfl (by revert t; decide) o k
  fin_cases t
  exacts [h 0, h 1, h 2, h 3, h 4, h 5, h 6, h 7, h 8]

/-- The third layer's matrix at a tap is that slab of the weight block. -/
theorem taps2_apply (t : Fin 9) (o k : Fin 256) : taps2 x1 t (ix4 0 0 o k) = x1 (ix4 2 t o k) := by
  have h := fun t : Fin 9 => slab_apply x1 2 t _ rfl (by revert t; decide) o k
  fin_cases t
  exacts [h 0, h 1, h 2, h 3, h 4, h 5, h 6, h 7, h 8]

/-- The fourth layer's matrix at a tap is that slab of the weight block. -/
theorem taps3_apply (t : Fin 9) (o k : Fin 256) : taps3 x1 t (ix4 0 0 o k) = x1 (ix4 3 t o k) := by
  have h := fun t : Fin 9 => slab_apply x1 3 t _ rfl (by revert t; decide) o k
  fin_cases t
  exacts [h 0, h 1, h 2, h 3, h 4, h 5, h 6, h 7, h 8]

/-- The lanes that the first layer reads: the block's eight images side by side. -/
theorem input_apply (k : Fin 256) (q : Fin 2048) :
    k0_pay36 x0 x1 x2 x3 x4 (ix2 k q)
      = x0 (ix3 (⟨q.val / 256, by omega⟩ : Fin 8) k (⟨q.val % 256, by omega⟩ : Fin 256)) := by
  pointwise [k0_pay36, k0_pay35, k0_pay34, k0_pay33, k0_pay32, k0_pay31, k0_pay8, k0_pay7, k0_pay6, k0_pay5, k0_pay4,
    k0_pay3]
  have key : ∀ (a a' : Fin 8) (p p' : Fin 256), a.val = a'.val → p.val = p'.val → x0 (ix3 a k p) = x0 (ix3 a' k p') := by
    intro a a' p p' ha hp
    rw [Fin.ext ha, Fin.ext hp]
  split_ifs <;> refine key _ _ _ _ ?_ ?_ <;> (first | (simp only []; omega) | (simp; omega))

/-- The first layer's lanes. -/
theorem lanes1 : k0_pay41 x0 x1 x2 x3 x4 = clip (convLanes (k0_pay36 x0 x1 x2 x3 x4) (taps0 x1) (View.ld x4 r0_17)) :=
  rfl

/-- The second layer's lanes. -/
theorem lanes2 : k0_pay45 x0 x1 x2 x3 x4 = clip (convLanes (k0_pay41 x0 x1 x2 x3 x4) (taps1 x1) (View.ld x4 r0_27)) :=
  rfl

/-- The third layer's lanes, by the names the body's text gives their parts. -/
abbrev third : FVec Ideal S256x2048 .bf16 :=
  k0_pay24 (k0_pay30 x0 x1 x2 x3 x4) (k0_pay47 x0 x1 x2 x3 x4) (k0_pay48 x0 x1 x2 x3 x4) (k0_pay49 x0 x1 x2 x3 x4)
    (View.ld x1 r0_36) (View.ld x4 r0_37)

/-- The third layer is the same function of the second one. -/
theorem lanes3 : third x0 x1 x2 x3 x4 = clip (convLanes (k0_pay45 x0 x1 x2 x3 x4) (taps2 x1) (View.ld x4 r0_37)) :=
  rfl

/-- The end of the body at one element: the transposed convolution's positive part, then the last convolution. -/
theorem head_apply (y : FVec Ideal S256x2048 .f32) (wt : Vec Ideal S1024x256 .bf16) (bt : Vec Ideal S1024x1 .f32)
    (w5 : Vec Ideal S16x1024 .bf16) (b5 : Vec Ideal S16x1 .f32) (r : Fin 16) (q : Fin 2048) :
    k0_pay1 k0_pay2 y k0_pay29 wt bt w5 b5 (ix2 r q)
      = Ideal.logistic ((∑ k : Fin 1024, w5 (ix2 r k)
          * max ((∑ i : Fin 256, wt (ix2 k i) * clip y (ix2 i q)) + bt (ix2 k 0)) 0) + b5 (ix2 r 0)) := by
  pointwise [k0_pay1, k0_pay29, clip]

/-- One grid point's block, when its inputs are the padded images of `X`, the four layers' weights and biases, and any
    matrices for the last two convolutions. -/
theorem block_apply (X : FVec Ideal Padded .f32) (W₁ W₂ W₃ W₄ : FVec Ideal Kernel3 .f32) (B₁ B₂ B₃ B₄ : FVec Ideal Bias .f32)
    (t : Fin 25)
    (hX : ∀ (a : Fin 8) (k : Fin 256) (p : Fin 256), x0 (ix3 a k p)
      = X (ix4 (⟨8 * t.val + a.val, by omega⟩ : Fin 200) k (⟨p.val / 16, by omega⟩ : Fin 16) (⟨p.val % 16, by omega⟩ : Fin 16)))
    (h₁ : ∀ (r c : Fin 3) (o k : Fin 256), x1 (ix4 0 ⟨3 * r.val + c.val, by omega⟩ o k) = W₁ (ix4 o k r c))
    (h₂ : ∀ (r c : Fin 3) (o k : Fin 256), x1 (ix4 1 ⟨3 * r.val + c.val, by omega⟩ o k) = W₂ (ix4 o k r c))
    (h₃ : ∀ (r c : Fin 3) (o k : Fin 256), x1 (ix4 2 ⟨3 * r.val + c.val, by omega⟩ o k) = W₃ (ix4 o k r c))
    (h₄ : ∀ (r c : Fin 3) (o k : Fin 256), x1 (ix4 3 ⟨3 * r.val + c.val, by omega⟩ o k) = W₄ (ix4 o k r c))
    (b₁ : ∀ o : Fin 256, x4 (ix2 (⟨o.val, by omega⟩ : Fin 1024) 0) = B₁ (ix1 o))
    (b₂ : ∀ o : Fin 256, x4 (ix2 (⟨o.val, by omega⟩ : Fin 1024) 1) = B₂ (ix1 o))
    (b₃ : ∀ o : Fin 256, x4 (ix2 (⟨o.val, by omega⟩ : Fin 1024) 2) = B₃ (ix1 o))
    (b₄ : ∀ o : Fin 256, x4 (ix2 (⟨o.val, by omega⟩ : Fin 1024) 3) = B₄ (ix1 o))
    (r : Fin 16) (q : Fin 2048) :
    out0_5 x0 x1 x2 x3 x4 (ix2 r q)
      = Ideal.logistic ((∑ k : Fin 1024, x3 (ix2 r k)
          * max ((∑ i : Fin 256, x2 (ix2 k i)
              * layer (layer (layer (layer X W₁ B₁) W₂ B₂) W₃ B₃) W₄ B₄ (ix4 (img t q) i (hgt q) (wid q)))
            + x4 (ix2 k 4)) 0) + x4 (ix2 (⟨r.val, by omega⟩ : Fin 1024) 5)) := by
  have e0 : ∀ (k : Fin 256) (q : Fin 2048), k0_pay36 x0 x1 x2 x3 x4 (ix2 k q) = X (ix4 (img t q) k (hgt q) (wid q)) := by
    intro k q
    rw [input_apply, hX]
    have e : (⟨q.val % 256 % 16, by omega⟩ : Fin 16) = wid q := Fin.ext (by simp only [wid]; omega)
    rw [e]
    rfl
  have e1 : ∀ (k : Fin 256) (q : Fin 2048), k0_pay41 x0 x1 x2 x3 x4 (ix2 k q)
      = layer X W₁ B₁ (ix4 (img t q) k (hgt q) (wid q)) := by
    rw [lanes1]
    exact layer_lanes X W₁ B₁ t _ _ _ e0 (fun r c o k => (taps0_apply x1 _ o k).trans (h₁ r c o k))
      (fun o => Eq.trans (by pointwise) (b₁ o))
  have e2 : ∀ (k : Fin 256) (q : Fin 2048), k0_pay45 x0 x1 x2 x3 x4 (ix2 k q)
      = layer (layer X W₁ B₁) W₂ B₂ (ix4 (img t q) k (hgt q) (wid q)) := by
    rw [lanes2]
    exact layer_lanes _ W₂ B₂ t _ _ _ e1 (fun r c o k => (taps1_apply x1 _ o k).trans (h₂ r c o k))
      (fun o => Eq.trans (by pointwise) (b₂ o))
  have e3 : ∀ (k : Fin 256) (q : Fin 2048), third x0 x1 x2 x3 x4 (ix2 k q)
      = layer (layer (layer X W₁ B₁) W₂ B₂) W₃ B₃ (ix4 (img t q) k (hgt q) (wid q)) := by
    rw [lanes3]
    exact layer_lanes _ W₃ B₃ t _ _ _ e2 (fun r c o k => (taps2_apply x1 _ o k).trans (h₃ r c o k))
      (fun o => Eq.trans (by pointwise) (b₃ o))
  have e4 := layer_lanes _ W₄ B₄ t (third x0 x1 x2 x3 x4) (taps3 x1) (View.ld x4 r0_47) e3
    (fun r c o k => (taps3_apply x1 _ o k).trans (h₄ r c o k)) (fun o => Eq.trans (by pointwise) (b₄ o))
  have hd := head_apply (convLanes (third x0 x1 x2 x3 x4) (taps3 x1) (View.ld x4 r0_47)) x2
    (View.ld x4 r0_49) x3 (View.ld x4 r0_51) r q
  unfold out0_5
  frame_out
  refine Eq.trans hd ?_
  simp only [e4]
  pointwise

end Cert.MaskHead

end
-- ==== Proof.Scatter.lean ====
/-
  The host writes the six columns of biases into one array of zeros by three scatters: a block of four columns, one
  whole column, and the head of one column.  Here each of the three is read at an element.
-/
module

public import proofs.«01_k».proof.Proof.Layer
public import Idealize.ShloMosaic.Lib.Routing.OpsPair
public import Idealize.ShloMosaic.Lib.Routing.OpsSet

@[expose] public section

set_option maxRecDepth 16384

noncomputable section

namespace Cert.MaskHead

open Idealize.ShloMosaic Idealize.ShloMosaic.Routing
open Cert.KernelIdeal Cert.KernelIdeal.Gen Cert.KernelIdeal.Facts

/-- The scatter of a 256 × 4 block at row 0, column 0: an element inside the block is the update's. -/
theorem scatter_block (x : FVec Ideal S1024x8 .f32) (i : IVec S2 32) (u : FVec Ideal S256x4 .f32) (hi : ∀ j, i j = 0#32)
    (o : Fin 256) (l : Fin 4) :
    Host.scatter scatter_S1024x8_S2_S256x4_01_n_01_0 (fun _ b => b) x i u
      (ix2 (⟨o.val, by omega⟩ : Fin 1024) (⟨l.val, by omega⟩ : Fin 8)) = u (ix2 o l) := by
  have key : ∀ (a : Fin 256) (b : Fin 4) (r : Fin 1024) (c : Fin 8),
      scatter_S1024x8_S2_S256x4_01_n_01_0.resultIdx? (ix2 a b) i = some (ix2 r c) ↔ a.val = r.val ∧ b.val = c.val := by
    intro a b r c
    refine (resultIdx?_ix2 (R := 1024) (C := 8) _ _ _ r c).trans ?_
    have s0 : scatter_S1024x8_S2_S256x4_01_n_01_0.start (ix2 a b) i 0 = 0 := by
      unfold ScatterDims.start
      rw [dif_pos (by decide), hi]; rfl
    have s1 : scatter_S1024x8_S2_S256x4_01_n_01_0.start (ix2 a b) i 1 = 0 := by
      unfold ScatterDims.start
      rw [dif_pos (by decide), hi]; rfl
    have w0 : scatter_S1024x8_S2_S256x4_01_n_01_0.window (ix2 a b) 0 = a.val := rfl
    have w1 : scatter_S1024x8_S2_S256x4_01_n_01_0.window (ix2 a b) 1 = b.val := rfl
    rw [s0, s1, w0, w1]
    omega
  refine scatter_set_hit _ x i u _ _ (fun k hk => ?_) (ix2 o l) ((key ..).2 ⟨rfl, rfl⟩)
  obtain ⟨a, b, rfl⟩ : ∃ a b, k = ix2 a b := ⟨k 0, k 1, eq_ix2 k⟩
  obtain ⟨h1, h2⟩ := (key ..).1 hk
  rw [Fin.ext (a := a) (b := o) h1, Fin.ext (a := b) (b := l) h2]

/-- Where an element of the scatter of a whole column lands: the row is the element's, the column is the fourth. -/
theorem column_lands (i : IVec S1 32) (hi : ∀ j, i j = 4#32) (a : Fin 1024) (r : Fin 1024) (c : Fin 8) :
    scatter_S1024x8_S1_S1024_0_1_1_0.resultIdx? (ix1 a) i = some (ix2 r c) ↔ a.val = r.val ∧ c.val = 4 := by
  refine (resultIdx?_ix2 (R := 1024) (C := 8) _ _ _ r c).trans ?_
  have s0 : scatter_S1024x8_S1_S1024_0_1_1_0.start (ix1 a) i 0 = 0 := by
    unfold ScatterDims.start
    rw [dif_neg (by decide)]
  have s1 : scatter_S1024x8_S1_S1024_0_1_1_0.start (ix1 a) i 1 = 4 := by
    unfold ScatterDims.start
    rw [dif_pos (by decide), hi]; rfl
  have w0 : scatter_S1024x8_S1_S1024_0_1_1_0.window (ix1 a) 0 = a.val := rfl
  have w1 : scatter_S1024x8_S1_S1024_0_1_1_0.window (ix1 a) 1 = 0 := rfl
  rw [s0, s1, w0, w1]
  omega

/-- The scatter of a whole column, at an element of that column. -/
theorem scatter_column (x : FVec Ideal S1024x8 .f32) (i : IVec S1 32) (u : FVec Ideal S1024 .f32) (hi : ∀ j, i j = 4#32)
    (r : Fin 1024) : Host.scatter scatter_S1024x8_S1_S1024_0_1_1_0 (fun _ b => b) x i u (ix2 r (4 : Fin 8)) = u (ix1 r) := by
  refine scatter_set_hit _ x i u _ _ (fun k hk => ?_) (ix1 r) ((column_lands i hi ..).2 ⟨rfl, rfl⟩)
  obtain ⟨a, rfl⟩ : ∃ a, k = ix1 a := ⟨k 0, eq_ix1 k⟩
  rw [Fin.ext (a := a) (b := r) ((column_lands i hi ..).1 hk).1]

/-- The scatter of a whole column leaves the other columns as they were. -/
theorem scatter_column_miss (x : FVec Ideal S1024x8 .f32) (i : IVec S1 32) (u : FVec Ideal S1024 .f32)
    (hi : ∀ j, i j = 4#32) (r : Fin 1024) (c : Fin 8) (hc : c.val ≠ 4) :
    Host.scatter scatter_S1024x8_S1_S1024_0_1_1_0 (fun _ b => b) x i u (ix2 r c) = x (ix2 r c) := by
  refine scatter_set_miss _ x i u _ fun k hk => ?_
  obtain ⟨a, rfl⟩ : ∃ a, k = ix1 a := ⟨k 0, eq_ix1 k⟩
  exact hc ((column_lands i hi ..).1 hk).2

/-- Where an element of the scatter of a column's head lands: the row is the element's, the column is the fifth. -/
theorem head_lands (i : IVec S2 32) (h0 : i (ix1 0) = 0#32) (h1 : i (ix1 1) = 5#32) (a : Fin 12) (r : Fin 1024) (c : Fin 8) :
    scatter_S1024x8_S2_S12_0_1_01_0.resultIdx? (ix1 a) i = some (ix2 r c) ↔ a.val = r.val ∧ c.val = 5 := by
  refine (resultIdx?_ix2 (R := 1024) (C := 8) _ _ _ r c).trans ?_
  have s0 : scatter_S1024x8_S2_S12_0_1_01_0.start (ix1 a) i 0 = 0 := by
    unfold ScatterDims.start
    rw [dif_pos (by decide)]
    refine Eq.trans (congrArg (fun j => (i j).toInt) (a₂ := ix1 0) (funext fun b => ?_)) ((congrArg BitVec.toInt h0).trans rfl)
    match b with
    | ⟨0, _⟩ => rfl
  have s1 : scatter_S1024x8_S2_S12_0_1_01_0.start (ix1 a) i 1 = 5 := by
    unfold ScatterDims.start
    rw [dif_pos (by decide)]
    refine Eq.trans (congrArg (fun j => (i j).toInt) (a₂ := ix1 1) (funext fun b => ?_)) ((congrArg BitVec.toInt h1).trans rfl)
    match b with
    | ⟨0, _⟩ => rfl
  have w0 : scatter_S1024x8_S2_S12_0_1_01_0.window (ix1 a) 0 = a.val := rfl
  have w1 : scatter_S1024x8_S2_S12_0_1_01_0.window (ix1 a) 1 = 0 := rfl
  rw [s0, s1, w0, w1]
  omega

/-- The scatter of a column's head, at an element of that head. -/
theorem scatter_head (x : FVec Ideal S1024x8 .f32) (i : IVec S2 32) (u : FVec Ideal S12 .f32) (h0 : i (ix1 0) = 0#32)
    (h1 : i (ix1 1) = 5#32) (r : Fin 12) :
    Host.scatter scatter_S1024x8_S2_S12_0_1_01_0 (fun _ b => b) x i u (ix2 (⟨r.val, by omega⟩ : Fin 1024) (5 : Fin 8))
      = u (ix1 r) := by
  refine scatter_set_hit _ x i u _ _ (fun k hk => ?_) (ix1 r) ((head_lands i h0 h1 ..).2 ⟨rfl, rfl⟩)
  obtain ⟨a, rfl⟩ : ∃ a, k = ix1 a := ⟨k 0, eq_ix1 k⟩
  rw [Fin.ext (a := a) (b := r) ((head_lands i h0 h1 ..).1 hk).1]

/-- The scatter of a column's head leaves the other columns as they were. -/
theorem scatter_head_miss (x : FVec Ideal S1024x8 .f32) (i : IVec S2 32) (u : FVec Ideal S12 .f32) (h0 : i (ix1 0) = 0#32)
    (h1 : i (ix1 1) = 5#32) (r : Fin 1024) (c : Fin 8) (hc : c.val ≠ 5) :
    Host.scatter scatter_S1024x8_S2_S12_0_1_01_0 (fun _ b => b) x i u (ix2 r c) = x (ix2 r c) := by
  refine scatter_set_miss _ x i u _ fun k hk => ?_
  obtain ⟨a, rfl⟩ : ∃ a, k = ix1 a := ⟨k 0, eq_ix1 k⟩
  exact hc ((head_lands i h0 h1 ..).1 hk).2

end Cert.MaskHead

end
-- ==== Proof.Entry.lean ====
/-
  What the five arrays hold that the kernel reads, element by element, in terms of the program's arguments.
-/
module

public import proofs.«01_k».proof.Proof.Scatter
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.MaskHead

open Idealize.ShloMosaic Idealize.ShloMosaic.TcCoe Idealize.SL.Sem
open Cert.KernelIdeal Cert.KernelIdeal.Gen Cert.KernelIdeal.Facts

variable (m : (ℓ : Loc nD τ sig) → Buf (Elt Ideal) ℓ) (c : Dev nD)

/-- The images, the first argument. -/
abbrev images : FVec Ideal Images .f32 := m ((c : Thread nD τ).loc main_arg0)
/-- The first layer's weights. -/
abbrev weights1 : FVec Ideal Kernel3 .f32 := m ((c : Thread nD τ).loc main_arg1)
/-- The first layer's biases. -/
abbrev bias1 : FVec Ideal Bias .f32 := m ((c : Thread nD τ).loc main_arg2)
/-- The second layer's weights. -/
abbrev weights2 : FVec Ideal Kernel3 .f32 := m ((c : Thread nD τ).loc main_arg3)
/-- The second layer's biases. -/
abbrev bias2 : FVec Ideal Bias .f32 := m ((c : Thread nD τ).loc main_arg4)
/-- The third layer's weights. -/
abbrev weights3 : FVec Ideal Kernel3 .f32 := m ((c : Thread nD τ).loc main_arg5)
/-- The third layer's biases. -/
abbrev bias3 : FVec Ideal Bias .f32 := m ((c : Thread nD τ).loc main_arg6)
/-- The fourth layer's weights. -/
abbrev weights4 : FVec Ideal Kernel3 .f32 := m ((c : Thread nD τ).loc main_arg7)
/-- The fourth layer's biases. -/
abbrev bias4 : FVec Ideal Bias .f32 := m ((c : Thread nD τ).loc main_arg8)
/-- The transposed convolution's weights. -/
abbrev weightsUp : FVec Ideal Kernel2 .f32 := m ((c : Thread nD τ).loc main_arg9)
/-- The transposed convolution's biases. -/
abbrev biasUp : FVec Ideal Bias .f32 := m ((c : Thread nD τ).loc main_arg10)
/-- The last convolution's weights. -/
abbrev weightsLast : FVec Ideal Kernel1 .f32 := m ((c : Thread nD τ).loc main_arg11)
/-- The last convolution's biases. -/
abbrev biasLast : FVec Ideal Bias3 .f32 := m ((c : Thread nD τ).loc main_arg12)

/-- The four layers' weights. -/
abbrev weights : Fin 4 → FVec Ideal Kernel3 .f32 := ![weights1 m c, weights2 m c, weights3 m c, weights4 m c]
/-- The four layers' biases. -/
abbrev biases : Fin 4 → FVec Ideal Bias .f32 := ![bias1 m c, bias2 m c, bias3 m c, bias4 m c]

/-- The padded images, each image's positions in one row. -/
theorem entry_images (n : Fin 200) (k p : Fin 256) :
    V m c main_v1 (ix3 n k p)
      = bordered (images m c) (ix4 n k (⟨p.val / 16, by omega⟩ : Fin 16) (⟨p.val % 16, by omega⟩ : Fin 16)) := by
  have hz : (FloatOps.sitofp (F := Ideal) FTy.f32 0#32 : EReal) = 0 := by
    show (((0#32 : BitVec 32).toInt : ℝ) : EReal) = 0
    simp
  unfold V V0
  after_reads_at
  by_cases h : (1 ≤ p.val / 16 ∧ p.val / 16 ≤ 14) ∧ (1 ≤ p.val % 16 ∧ p.val % 16 ≤ 14)
  · rw [dif_pos (by omega), bordered_inside _ _ _ _ _ h.1 h.2]
  · rw [dif_neg (by omega), bordered_border _ _ _ _ _ h]
    exact hz

/-- The transposed convolution's weights: a row for each offset and output channel, a column for each input channel. -/
theorem entry_up (k : Fin 1024) (i : Fin 256) :
    V m c main_v18 (ix2 k i)
      = weightsUp m c (ix4 i (⟨k.val % 256, by omega⟩ : Fin 256) (⟨k.val / 512, by omega⟩ : Fin 2)
          (⟨k.val / 256 % 2, by omega⟩ : Fin 2)) := by
  unfold V V0
  after_reads_at

/-- The last convolution's weights, once for each of the four offsets: a block diagonal matrix. -/
theorem entry_last (r : Fin 12) (k : Fin 1024) :
    V m c main_v28 (ix2 (⟨r.val, by omega⟩ : Fin 16) k)
      = (if r.val / 3 = k.val / 256 then weightsLast m c
          (ix4 (⟨r.val % 3, by omega⟩ : Fin 3) (⟨k.val % 256, by omega⟩ : Fin 256) 0 0) else 0) := by
  have hw : (FloatOps.uitofp (F := Ideal) FTy.f32 (IntOp.cmpi CmpIPredicate.eq
      (IntOp.addi (BitVec.ofNat 32 (r.val / 3)) 0#32) (BitVec.ofNat 32 (k.val / 256))) : EReal)
        = if r.val / 3 = k.val / 256 then 1 else 0 := by
    have e : IntOp.addi (BitVec.ofNat 32 (r.val / 3)) 0#32 = BitVec.ofNat 32 (r.val / 3) := BitVec.add_zero _
    rw [e, WordCmp.cmpi_eq_ofNat (by omega) (by omega)]
    show (((BitVec.ofBool (decide (r.val / 3 = k.val / 256))).toNat : ℝ) : EReal) = _
    by_cases h : r.val / 3 = k.val / 256 <;> simp [h]
  unfold V V0
  after_reads_at
  refine Eq.trans (congrArg (fun z : EReal => z * weightsLast m c
    (ix4 (⟨r.val % 3, by omega⟩ : Fin 3) (⟨k.val % 256, by omega⟩ : Fin 256) 0 0)) hw) ?_
  by_cases h : r.val / 3 = k.val / 256
  · simp only [if_pos h, one_mul]
  · simp only [if_neg h, zero_mul]

/-- The four layers' weights: tap (`r`, `s`) of layer `l`, as a matrix of output by input channels. -/
theorem entry_taps (l : Fin 4) (r s : Fin 3) (o k : Fin 256) :
    V m c main_v15 (ix4 l (⟨3 * r.val + s.val, by omega⟩ : Fin 9) o k) = weights m c l (ix4 o k r s) := by
  have er : (⟨(3 * r.val + s.val) / 3, by omega⟩ : Fin 3) = r := Fin.ext (by simp only []; omega)
  have es : (⟨(3 * r.val + s.val) % 3, by omega⟩ : Fin 3) = s := Fin.ext (by simp only []; omega)
  unfold V V0
  match l with
  | 0 => after_reads_at; after_reads_at; exact congrArg₂ (fun a b => weights1 m c (ix4 o k a b)) er es
  | 1 => after_reads_at; after_reads_at; exact congrArg₂ (fun a b => weights2 m c (ix4 o k a b)) er es
  | 2 => after_reads_at; after_reads_at; exact congrArg₂ (fun a b => weights3 m c (ix4 o k a b)) er es
  | 3 => after_reads_at; after_reads_at; exact congrArg₂ (fun a b => weights4 m c (ix4 o k a b)) er es

/-- The array of biases, as the three scatters leave it: the lowest columns hold the four layers' biases. -/
theorem entry_bias (l : Fin 4) (o : Fin 256) :
    V m c main_v50 (ix2 (⟨o.val, by omega⟩ : Fin 1024) (⟨l.val, by omega⟩ : Fin 8)) = biases m c l (ix1 o) := by
  unfold V V0
  after_reads_at
  refine (scatter_head_miss _ _ _ ?_ ?_ _ _ (by simp only []; omega)).trans ?_
  · pointwise
    after_reads_at
  · pointwise
    after_reads_at
  refine (scatter_column_miss _ _ _ ?_ _ _ (by simp only []; omega)).trans ?_
  · intro j; pointwise
  refine (scatter_block _ _ _ ?_ o l).trans ?_
  · intro j
    idx_vars j
    pointwise
    after_reads_at
    split <;> rfl
  match l with
  | 0 => pointwise; after_reads_at
  | 1 => pointwise; after_reads_at
  | 2 => pointwise; after_reads_at
  | 3 => pointwise; after_reads_at

/-- Column 4 of the biases: the transposed convolution's, once for each of the four offsets. -/
theorem entry_bias_up (k : Fin 1024) :
    V m c main_v50 (ix2 k (4 : Fin 8)) = biasUp m c (ix1 (⟨k.val % 256, by omega⟩ : Fin 256)) := by
  unfold V V0
  after_reads_at
  refine (scatter_head_miss _ _ _ ?_ ?_ _ _ (by decide)).trans ?_
  · pointwise
    after_reads_at
  · pointwise
    after_reads_at
  refine (scatter_column _ _ _ ?_ _).trans ?_
  · intro j; pointwise
  rfl

/-- Column 5 of the biases: the last convolution's, once for each of the four offsets. -/
theorem entry_bias_last (r : Fin 12) :
    V m c main_v50 (ix2 (⟨r.val, by omega⟩ : Fin 1024) (5 : Fin 8)) = biasLast m c (ix1 (⟨r.val % 3, by omega⟩ : Fin 3)) := by
  unfold V V0
  after_reads_at
  refine (scatter_head _ _ _ ?_ ?_ r).trans ?_
  · pointwise
    after_reads_at
  · pointwise
    after_reads_at
  rfl

end Cert.MaskHead

end
-- ==== Proof.Array.lean ====
/-
  What the kernel's result array holds after its 25 grid points: every lane of every row, as one function of the arrays
  that the kernel reads.
-/
module

public import proofs.«01_k».proof.Proof.Block
public import proofs.«01_k».proof.Proof.Entry

@[expose] public section

set_option maxRecDepth 16384

noncomputable section

namespace Cert.MaskHead

open Idealize.ShloMosaic Idealize.ShloMosaic.TcCoe Idealize.SL.Sem
open Idealize.ShloMosaic.Pipeline (Dat)
open Cert.KernelIdeal Cert.KernelIdeal.Gen Cert.KernelIdeal.Facts

variable (m : (ℓ : Loc nD τ sig) → Buf (Elt Ideal) ℓ) (c : Dev nD)

/-- The four layers on the program's arguments. -/
def trunk : FVec Ideal Padded .f32 :=
  layer (layer (layer (layer (bordered (images m c)) (weights1 m c) (bias1 m c)) (weights2 m c) (bias2 m c))
    (weights3 m c) (bias3 m c)) (weights4 m c) (bias4 m c)

/-- The matrix of the last convolution, as the kernel reads it. -/
abbrev lastMatrix : FVec Ideal S16x1024 .bf16 := V m c main_v28
/-- The matrix of the transposed convolution, as the kernel reads it. -/
abbrev upMatrix : FVec Ideal S1024x256 .bf16 := V m c main_v18
/-- The array of biases, as the kernel reads it. -/
abbrev biasArray : FVec Ideal S1024x8 .f32 := V m c main_v50

/-- One element of the kernel's result array: its row stands for an offset and an output channel, its lane for an image
    and a position of the padded image. -/
def lane (r : Fin 16) (p : Fin 51200) : EReal :=
  Ideal.logistic ((∑ k : Fin 1024, lastMatrix m c (ix2 r k)
      * max ((∑ i : Fin 256, upMatrix m c (ix2 k i)
          * trunk m c (ix4 (⟨p.val / 256, by omega⟩ : Fin 200) i
              (⟨p.val % 256 / 16, by omega⟩ : Fin 16) (⟨p.val % 16, by omega⟩ : Fin 16)))
        + biasArray m c (ix2 k 4)) 0) + biasArray m c (ix2 (⟨r.val, by omega⟩ : Fin 1024) 5))

/-- The kernel's result array. -/
def lanes : FVec Ideal S16x51200 .f32 := fun j => lane m c (j 0) (j 1)

/-- Where the windows' blocks lie at each grid point. -/
theorem block_at : ∀ t : Fin cfg0.N, win0_0.index t = ![t.val, 0, 0] ∧ win0_1.index t = ![0, 0, 0, 0]
    ∧ win0_2.index t = ![0, 0] ∧ win0_3.index t = ![0, 0] ∧ win0_4.index t = ![0, 0] ∧ win0_5.index t = ![0, t.val]
    ∧ t.val < 25 :=
  (by decide +kernel : ∀ t : Fin grid0.N, _)

/-- The images' block at grid point `t` is images `8 t` to `8 t + 7`. -/
theorem block_images (t : Fin cfg0.N) (a : Fin 8) (k p : Fin 256) :
    iblk m c 0 t (ix3 a k p)
      = V m c main_v1 (ix3 (⟨8 * t.val + a.val, by have := (block_at t).2.2.2.2.2.2; omega⟩ : Fin 200) k p) := by
  blk_ext [iblk, block_at t]

/-- The block of the layers' weights is the whole array at every grid point. -/
theorem block_taps (t : Fin cfg0.N) : iblk m c 1 t = V m c main_v15 := by
  blk_ext! [iblk, block_at t]

/-- So is the block of the transposed convolution's weights. -/
theorem block_up (t : Fin cfg0.N) : iblk m c 2 t = V m c main_v18 := by
  blk_ext! [iblk, block_at t]

/-- So is the block of the last convolution's weights. -/
theorem block_last (t : Fin cfg0.N) : iblk m c 3 t = V m c main_v28 := by
  blk_ext! [iblk, block_at t]

/-- So is the block of the biases. -/
theorem block_bias (t : Fin cfg0.N) : iblk m c 4 t = V m c main_v50 := by
  blk_ext! [iblk, block_at t]

/-- What a grid point leaves in its block, as elements of the result array. -/
theorem block_value (t : Fin cfg0.N) (r : Fin 16) (q : Fin 2048) :
    out0_5 (iblk m c 0 t) (V m c main_v15) (V m c main_v18) (V m c main_v28) (V m c main_v50) (ix2 r q)
      = lane m c r (⟨2048 * t.val + q.val, by have := (block_at t).2.2.2.2.2.2; omega⟩ : Fin 51200) := by
  have ht := (block_at t).2.2.2.2.2.2
  refine (block_apply (iblk m c 0 t) (V m c main_v15) (V m c main_v18) (V m c main_v28) (V m c main_v50)
    (bordered (images m c)) (weights1 m c) (weights2 m c) (weights3 m c) (weights4 m c) (bias1 m c) (bias2 m c)
    (bias3 m c) (bias4 m c) (⟨t.val, ht⟩ : Fin 25) (fun a k p => (block_images m c t a k p).trans (entry_images m c _ k p))
    (entry_taps m c 0) (entry_taps m c 1) (entry_taps m c 2) (entry_taps m c 3)
    (entry_bias m c 0) (entry_bias m c 1) (entry_bias m c 2) (entry_bias m c 3) r q).trans ?_
  have e1 : img (⟨t.val, ht⟩ : Fin 25) q = (⟨(2048 * t.val + q.val) / 256, by omega⟩ : Fin 200) :=
    Fin.ext (by simp only [img]; omega)
  have e2 : hgt q = (⟨(2048 * t.val + q.val) % 256 / 16, by omega⟩ : Fin 16) := Fin.ext (by simp only [hgt]; omega)
  have e3 : wid q = (⟨(2048 * t.val + q.val) % 16, by omega⟩ : Fin 16) := Fin.ext (by simp only [wid]; omega)
  rw [e1, e2, e3]
  rfl

/-- The result array after the last grid point. -/
theorem array_value : (dats m 0 c).arrAt 5 (cfgs 0).N = lanes m c := by
  refine (dats m 0 c).arrAt_eq_of_covers 5 _ (by decide +kernel) fun t _ y => ?_
  blk_simp
  rw [after0_5, block_taps, block_up, block_last, block_bias]
  obtain ⟨r, q, rfl⟩ : ∃ (r : Fin 16) (q : Fin 2048), y = (ix2 r q : S16x2048.Idx) := ⟨y 0, y 1, eq_ix2 _⟩
  refine (block_value m c t r q).trans ?_
  refine Eq.trans ?_ (congrArg (lanes m c) (a₁ := (ix2 r (⟨2048 * t.val + q.val, by have := (block_at t).2.2.2.2.2.2; omega⟩ : Fin 51200) : S16x51200.Idx)) ?_)
  · rfl
  · blk_ext [block_at t]

end Cert.MaskHead

end
-- ==== Proof.Network.lean ====
/-
  The whole network on plain arrays of extended reals: four layers, the transposed convolution, the last convolution and
  the logistic function. With it a sum over four blocks of which all but one are zero.
-/
module

public import proofs.«01_k».proof.Proof.Spec

@[expose] public section

set_option maxRecDepth 16384

noncomputable section

namespace Cert.MaskHead

open Idealize.ShloMosaic

/-- One element of the masks made from the padded images `X`: output channel `j` at position (`h`, `w`) of the 28 × 28
    mask. The position lies in the 2 × 2 square that position (`h / 2`, `w / 2`) of the 14 × 14 image becomes. -/
def mask (X : FVec Ideal Padded .f32) (U : FVec Ideal Kernel2 .f32) (D : FVec Ideal Bias .f32)
    (L : FVec Ideal Kernel1 .f32) (E : FVec Ideal Bias3 .f32) (n : Fin 200) (j : Fin 3) (h w : Fin 28) : EReal :=
  Ideal.logistic ((∑ o : Fin 256, L (ix4 j o 0 0)
      * up X U D n (⟨h.val / 2 + 1, by omega⟩ : Fin 16) (⟨w.val / 2 + 1, by omega⟩ : Fin 16) o
          (⟨h.val % 2, by omega⟩ : Fin 2) (⟨w.val % 2, by omega⟩ : Fin 2)) + E (ix1 j))

/-- The four layers on the images. -/
def layers (x : FVec Ideal Images .f32) (W1 : FVec Ideal Kernel3 .f32) (B1 : FVec Ideal Bias .f32)
    (W2 : FVec Ideal Kernel3 .f32) (B2 : FVec Ideal Bias .f32) (W3 : FVec Ideal Kernel3 .f32)
    (B3 : FVec Ideal Bias .f32) (W4 : FVec Ideal Kernel3 .f32) (B4 : FVec Ideal Bias .f32) : FVec Ideal Padded .f32 :=
  layer (layer (layer (layer (bordered x) W1 B1) W2 B2) W3 B3) W4 B4

/-- A sum over four blocks of 256 terms whose coefficients are zero outside block `s` is the sum over that block. -/
theorem sum_one_block (s : Fin 4) (A : Fin 256 → EReal) (f : Fin 1024 → EReal) :
    (∑ k : Fin 1024, (if s.val = k.val / 256 then A (⟨k.val % 256, by omega⟩ : Fin 256) else 0) * f k)
      = ∑ o : Fin 256, A o * f (⟨s.val * 256 + o.val, by omega⟩ : Fin 1024) := by
  rw [Fin.sum_univ_tiles 4 256 rfl, Finset.sum_eq_single s]
  · refine Finset.sum_congr rfl fun o _ => ?_
    rw [if_pos (by simp only []; omega)]
    congr 2
    exact Fin.ext (by simp only []; omega)
  · intro b _ hb
    refine Finset.sum_eq_zero fun o _ => ?_
    have hne : s.val ≠ b.val := fun e => hb (Fin.ext e.symm)
    rw [if_neg (by simp only []; omega), zero_mul]
  · exact fun h => absurd (Finset.mem_univ _) h

end Cert.MaskHead

end
-- ==== Proof.Result.lean ====
/-
  The kernel's result: the rows and lanes of its array, rearranged by the operations after the kernel into the masks.
-/
module

public import proofs.«01_k».proof.Proof.Array
public import proofs.«01_k».proof.Proof.Network

@[expose] public section

set_option maxRecDepth 16384

noncomputable section

namespace Cert.MaskHead

open Idealize.ShloMosaic Idealize.ShloMosaic.TcCoe Idealize.SL.Sem
open Idealize.ShloMosaic.Pipeline (Dat)
open Cert.KernelIdeal Cert.KernelIdeal.Gen Cert.KernelIdeal.Facts

variable (m : (ℓ : Loc nD τ sig) → Buf (Elt Ideal) ℓ) (c : Dev nD)

/-- The buffers that the operations after the kernel find. -/
abbrev left : Valuation τ sig (Elt Ideal) :=
  Pipeline.withArrays (cfgs 0).spec c (V0 m c) fun w => (dats m 0 c).arrAt w (cfgs 0).N

/-- Of these buffers the kernel's array holds the lanes. -/
theorem left_array : left m c (Proc.devRef .tc main_v51) = lanes m c :=
  (Pipeline.withArrays_arr spec0 (by decide) c (V0 m c) (fun w => (dats m 0 c).arrAt w (cfgs 0).N) 5).trans
    (array_value m c)

/-- The operations after the kernel move the elements of its array only: row `6 a + 3 b + j` and lane `256 n + 16 h + w`
    hold output channel `j` at offset (`a`, `b`) of position (`h`, `w`) in the padded image `n`. -/
theorem tail_read (v : Valuation τ sig (Elt Ideal)) (n : Fin 200) (j : Fin 3) (h w : Fin 28) :
    (StableHlo.after hostOps1 v (Proc.devRef .tc main_v56) : FVec Ideal S200x3x28x28 .f32) (ix4 n j h w)
      = (v (Proc.devRef .tc main_v51) : FVec Ideal S16x51200 .f32)
          (ix2 (⟨(h.val % 2 * 2 + w.val % 2) * 3 + j.val, by omega⟩ : Fin 16)
            (⟨n.val * 256 + (h.val / 2 + 1) * 16 + (w.val / 2 + 1), by omega⟩ : Fin 51200)) := by
  after_reads_at
  exact congrArg₂ (fun a b => (v (Proc.devRef .tc main_v51) : FVec Ideal S16x51200 .f32) (ix2 a b))
    (Fin.ext (by simp only []; omega)) (Fin.ext (by simp only []; omega))

/-- A lane of the kernel's array that belongs to a mask. -/
theorem lane_value (s : Fin 4) (n : Fin 200) (j : Fin 3) (h w : Fin 16) :
    lane m c (⟨s.val * 3 + j.val, by omega⟩ : Fin 16) (⟨n.val * 256 + h.val * 16 + w.val, by omega⟩ : Fin 51200)
      = Ideal.logistic ((∑ o : Fin 256, weightsLast m c (ix4 j o 0 0)
          * up (trunk m c) (weightsUp m c) (biasUp m c) n h w o (⟨s.val / 2, by omega⟩ : Fin 2)
              (⟨s.val % 2, by omega⟩ : Fin 2)) + biasLast m c (ix1 j)) := by
  have e1 : (⟨(n.val * 256 + h.val * 16 + w.val) / 256, by omega⟩ : Fin 200) = n := Fin.ext (by simp only []; omega)
  have e2 : (⟨(n.val * 256 + h.val * 16 + w.val) % 256 / 16, by omega⟩ : Fin 16) = h := Fin.ext (by simp only []; omega)
  have e3 : (⟨(n.val * 256 + h.val * 16 + w.val) % 16, by omega⟩ : Fin 16) = w := Fin.ext (by simp only []; omega)
  have hl : ∀ k : Fin 1024, lastMatrix m c (ix2 (⟨s.val * 3 + j.val, by omega⟩ : Fin 16) k)
      = if s.val = k.val / 256 then weightsLast m c (ix4 j (⟨k.val % 256, by omega⟩ : Fin 256) 0 0) else 0 := fun k => by
    refine (entry_last m c (⟨s.val * 3 + j.val, by omega⟩ : Fin 12) k).trans ?_
    have q : (s.val * 3 + j.val) / 3 = s.val := by omega
    have q' : (⟨(s.val * 3 + j.val) % 3, by omega⟩ : Fin 3) = j := Fin.ext (by simp only []; omega)
    simp only [q, q']
  have hb : biasArray m c (ix2 (⟨s.val * 3 + j.val, by omega⟩ : Fin 1024) 5) = biasLast m c (ix1 j) := by
    refine (entry_bias_last m c (⟨s.val * 3 + j.val, by omega⟩ : Fin 12)).trans ?_
    exact congrArg (fun i => biasLast m c (ix1 i)) (Fin.ext (by simp only []; omega))
  unfold lane
  refine congrArg Ideal.logistic (congrArg₂ (· + ·) ?_ hb)
  rw [e1, e2, e3]
  simp only [hl]
  rw [sum_one_block s (fun o => weightsLast m c (ix4 j o 0 0))]
  refine Finset.sum_congr rfl fun o _ => congrArg₂ (· * ·) rfl ?_
  have hk : (⟨(s.val * 256 + o.val) % 256, by omega⟩ : Fin 256) = o := Fin.ext (by simp only []; omega)
  have ha : (⟨(s.val * 256 + o.val) / 512, by omega⟩ : Fin 2) = ⟨s.val / 2, by omega⟩ := Fin.ext (by simp only []; omega)
  have hc : (⟨(s.val * 256 + o.val) / 256 % 2, by omega⟩ : Fin 2) = ⟨s.val % 2, by omega⟩ := Fin.ext (by simp only []; omega)
  unfold up
  refine congrArg₂ max (congrArg₂ (· + ·) (Finset.sum_congr rfl fun i _ => congrArg₂ (· * ·) ?_ rfl) ?_) rfl
  · refine (entry_up m c _ i).trans ?_
    rw [hk, ha, hc]
  · refine (entry_bias_up m c _).trans ?_
    rw [hk]

/-- The kernel's result, element by element. -/
theorem kernel_value (n : Fin 200) (j : Fin 3) (h w : Fin 28) :
    (Pipeline.afterTail₀ cfgs (dats m) 0 (V0 m) [hostOps1] c main_v56 : FVec Ideal S200x3x28x28 .f32)
        (ix4 n j h w)
      = mask (trunk m c) (weightsUp m c) (biasUp m c) (weightsLast m c) (biasLast m c) n j h w := by
  refine (tail_read (left m c) n j h w).trans ?_
  rw [left_array]
  refine (lane_value m c (⟨h.val % 2 * 2 + w.val % 2, by omega⟩ : Fin 4) n j (⟨h.val / 2 + 1, by omega⟩ : Fin 16)
    (⟨w.val / 2 + 1, by omega⟩ : Fin 16)).trans ?_
  have ha : (⟨(h.val % 2 * 2 + w.val % 2) / 2, by omega⟩ : Fin 2) = ⟨h.val % 2, by omega⟩ := Fin.ext (by simp only []; omega)
  have hc : (⟨(h.val % 2 * 2 + w.val % 2) % 2, by omega⟩ : Fin 2) = ⟨w.val % 2, by omega⟩ := Fin.ext (by simp only []; omega)
  simp only [ha, hc]
  rfl

end Cert.MaskHead

end
-- ==== Proof.Reference.lean ====
/-
  What the reference computes, element by element: each of its convolutions is a layer, and its result is the masks.
-/
module

public import proofs.«01_k».proof.Proof.Network
public import proofs.«01_k».proof.Proof.Gen.ReferenceIdeal.Run

@[expose] public section

set_option maxRecDepth 16384

noncomputable section

namespace Cert.MaskHead

open Idealize.ShloMosaic Idealize.ShloMosaic.TcCoe Idealize.SL.Sem
open Cert.ReferenceIdeal Cert.ReferenceIdeal.Gen Cert.ReferenceIdeal.Facts Cert.ReferenceIdeal.Value

variable (V : Valuation τ sig (Elt Ideal))

/-- The constant with which the reference pads. -/
theorem fill_zero : (FloatOps.sitofp (F := Ideal) FTy.f32 0#32 : EReal) = 0 := by
  show (((0#32 : BitVec 32).toInt : ℝ) : EReal) = 0
  simp

/-- One tap of the reference's convolution: the weights' slice times the images' slice, summed over input channels. -/
def tapArray (X : FVec Ideal S200x256x16x16 .f32) (W : FVec Ideal S256x256x3x3 .f32) (r c : ℕ)
    (hw : S256x256x3x3.Slices ![0, 0, r, c] S256x256x1x1) (hx : S200x256x16x16.Slices ![0, 0, r, c] S200x256x14x14) :
    FVec Ideal S200x256x14x14 .f32 :=
  transpose S200x256x14x14 [1, 0, 2, 3] (Host.dotGeneral dot_S256x256_S200x256x14x14_S256x200x14x14_1_1_0_023_n_n none
    (shapeCast _ (extractStridedSlice S256x256x1x1 ![0, 0, r, c] W hw) shapeCasts_S256x256x1x1_S256x256)
    (extractStridedSlice S200x256x14x14 ![0, 0, r, c] X hx)) transposes_S256x200x14x14_S200x256x14x14_1_0_2_3

/-- One element of a tap: the sum over the input channels at the position moved by the tap's row and column. -/
theorem tapArray_apply (X : FVec Ideal S200x256x16x16 .f32) (W : FVec Ideal S256x256x3x3 .f32) (r c : Fin 3)
    (hw : S256x256x3x3.Slices ![0, 0, r.val, c.val] S256x256x1x1)
    (hx : S200x256x16x16.Slices ![0, 0, r.val, c.val] S200x256x14x14) (n : Fin 200) (o : Fin 256) (h w : Fin 14) :
    tapArray X W r.val c.val hw hx (ix4 n o h w) = tap X W n o h w r c := by
  pointwise [tapArray, tap]
  refine Finset.sum_congr rfl fun k _ => ?_
  exact congrArg₂ (fun a b => W (ix4 o k r c) * X (ix4 n k a b)) (Fin.ext (Nat.add_comm _ _)) (Fin.ext (Nat.add_comm _ _))

/-- The reference's convolution: its nine taps, added to zero one after the other. -/
def convArray (X : FVec Ideal S200x256x16x16 .f32) (W : FVec Ideal S256x256x3x3 .f32) : FVec Ideal S200x256x14x14 .f32 :=
  addf (addf (addf (addf (addf (addf (addf (addf (addf (broadcastInDim S200x256x14x14 ![] bcast_S_S200x256x14x14
    (constant S_ .f32 0x00000000#32))
    (tapArray X W 0 0 slices_S256x256x3x3_S256x256x1x1_0_0_0_0 slices_S200x256x16x16_S200x256x14x14_0_0_0_0))
    (tapArray X W 0 1 slices_S256x256x3x3_S256x256x1x1_0_0_0_1 slices_S200x256x16x16_S200x256x14x14_0_0_0_1))
    (tapArray X W 0 2 slices_S256x256x3x3_S256x256x1x1_0_0_0_2 slices_S200x256x16x16_S200x256x14x14_0_0_0_2))
    (tapArray X W 1 0 slices_S256x256x3x3_S256x256x1x1_0_0_1_0 slices_S200x256x16x16_S200x256x14x14_0_0_1_0))
    (tapArray X W 1 1 slices_S256x256x3x3_S256x256x1x1_0_0_1_1 slices_S200x256x16x16_S200x256x14x14_0_0_1_1))
    (tapArray X W 1 2 slices_S256x256x3x3_S256x256x1x1_0_0_1_2 slices_S200x256x16x16_S200x256x14x14_0_0_1_2))
    (tapArray X W 2 0 slices_S256x256x3x3_S256x256x1x1_0_0_2_0 slices_S200x256x16x16_S200x256x14x14_0_0_2_0))
    (tapArray X W 2 1 slices_S256x256x3x3_S256x256x1x1_0_0_2_1 slices_S200x256x16x16_S200x256x14x14_0_0_2_1))
    (tapArray X W 2 2 slices_S256x256x3x3_S256x256x1x1_0_0_2_2 slices_S200x256x16x16_S200x256x14x14_0_0_2_2)

/-- The convolution with its bias, and its positive part. -/
def activation (A : FVec Ideal S200x256x14x14 .f32) (B : FVec Ideal S256 .f32) : FVec Ideal S200x256x14x14 .f32 :=
  maximumf (addf A (broadcastInDim S200x256x14x14 ![0, 1, 2, 3] bcast_S1x256x1x1_S200x256x14x14_0_1_2_3
    (broadcastInDim S1x256x1x1 ![1] bcast_S256_S1x256x1x1_1 B)))
    (broadcastInDim S200x256x14x14 ![] bcast_S_S200x256x14x14 (constant S_ .f32 0x00000000#32))

/-- The border of zeros. -/
def border (A : FVec Ideal S200x256x14x14 .f32) : FVec Ideal S200x256x16x16 .f32 :=
  pad S200x256x16x16 ![0, 0, 1, 1] ![0, 0, 1, 1] ![0, 0, 0, 0] A (sitofp .f32 (constantI S_ 32 0#32))
    pads_S200x256x14x14_S200x256x16x16_000_000_110_110 h_S_

/-- One element of a bordered array: zero on the border, the array's own element inside it. -/
theorem border_apply (A : FVec Ideal S200x256x14x14 .f32) (n : Fin 200) (k : Fin 256) (h w : Fin 16) :
    border A (ix4 n k h w)
      = if hi : (1 ≤ h.val ∧ h.val ≤ 14) ∧ (1 ≤ w.val ∧ w.val ≤ 14) then
          A (ix4 n k (⟨h.val - 1, by omega⟩ : Fin 14) (⟨w.val - 1, by omega⟩ : Fin 14))
        else 0 := by
  pointwise [border]
  by_cases hi : (1 ≤ h.val ∧ h.val ≤ 14) ∧ (1 ≤ w.val ∧ w.val ≤ 14)
  · rw [dif_pos (by omega), dif_pos hi]
  · rw [dif_neg (by omega), dif_neg hi]
    exact fill_zero

/-- The images with a border, as the reference writes them. -/
theorem border_images (x : FVec Ideal S200x256x14x14 .f32) : border x = bordered x := by
  funext i
  obtain ⟨n, k, h, w, rfl⟩ : ∃ (n : Fin 200) (k : Fin 256) (h w : Fin 16), i = (ix4 n k h w : S200x256x16x16.Idx) :=
    ⟨i 0, i 1, i 2, i 3, eq_ix4 _⟩
  exact border_apply x n k h w

/-- One element of the reference's convolution with its bias is the convolution of the network. -/
theorem convArray_apply (X : FVec Ideal S200x256x16x16 .f32) (W : FVec Ideal S256x256x3x3 .f32)
    (B : FVec Ideal S256 .f32) (n : Fin 200) (o : Fin 256) (h w : Fin 14) :
    convArray X W (ix4 n o h w) + B (ix1 o) = conv X W B n o h w := by
  have t (r c : Fin 3) (hw hx) := tapArray_apply X W r c hw hx n o h w
  have sum_congr {a b a' b' : EReal} (e : a = a') (e' : b = b') : a + b = a' + b' := congrArg₂ _ e e'
  pointwise [convArray]
  refine (sum_congr (sum_congr (sum_congr (sum_congr (sum_congr (sum_congr (sum_congr (sum_congr (sum_congr
    (t 0 0 _ _) (t 0 1 _ _)) (t 0 2 _ _)) (t 1 0 _ _)) (t 1 1 _ _)) (t 1 2 _ _)) (t 2 0 _ _)) (t 2 1 _ _)) (t 2 2 _ _))
    (Eq.refl (B (ix1 o)))).trans ?_
  unfold conv
  simp only [add_assoc]

/-- One element of an activation: the element and its channel's bias, or zero if that is negative. -/
theorem activation_apply (A : FVec Ideal S200x256x14x14 .f32) (B : FVec Ideal S256 .f32) (n : Fin 200) (o : Fin 256)
    (h w : Fin 14) : activation A B (ix4 n o h w) = max (A (ix4 n o h w) + B (ix1 o)) 0 := by
  pointwise [activation]

/-- A convolution of the reference with its border is a layer. -/
theorem border_layer (X : FVec Ideal S200x256x16x16 .f32) (W : FVec Ideal S256x256x3x3 .f32) (B : FVec Ideal S256 .f32) :
    border (activation (convArray X W) B) = layer X W B := by
  funext i
  obtain ⟨n, k, h, w, rfl⟩ : ∃ (n : Fin 200) (k : Fin 256) (h w : Fin 16), i = (ix4 n k h w : S200x256x16x16.Idx) :=
    ⟨i 0, i 1, i 2, i 3, eq_ix4 _⟩
  refine (border_apply _ n k h w).trans ?_
  by_cases hi : (1 ≤ h.val ∧ h.val ≤ 14) ∧ (1 ≤ w.val ∧ w.val ≤ 14)
  · rw [dif_pos hi, layer_inside _ _ _ _ _ _ _ hi.1 hi.2, activation_apply, convArray_apply]
  · rw [dif_neg hi, layer_border _ _ _ _ _ _ _ hi]

/-- The reference's fourth layer with its border is the network's four layers. -/
theorem layers_value :
    border (activation (res_main_v235 V) (V (Proc.devRef .tc main_arg8)))
      = layers (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  have e0 : res_main_v0 V = bordered (V (Proc.devRef .tc main_arg0)) := border_images _
  have e1 : res_main_v60 V = layer (res_main_v0 V) (V (Proc.devRef .tc main_arg1)) (V (Proc.devRef .tc main_arg2)) :=
    border_layer _ _ _
  have e2 : res_main_v120 V = layer (res_main_v60 V) (V (Proc.devRef .tc main_arg3)) (V (Proc.devRef .tc main_arg4)) :=
    border_layer _ _ _
  have e3 : res_main_v180 V = layer (res_main_v120 V) (V (Proc.devRef .tc main_arg5)) (V (Proc.devRef .tc main_arg6)) :=
    border_layer _ _ _
  refine (border_layer (res_main_v180 V) (V (Proc.devRef .tc main_arg7)) (V (Proc.devRef .tc main_arg8))).trans ?_
  rw [e3, e2, e1, e0]
  rfl

/-- The reference's operations after the four layers: the transposed convolution, the last convolution and the logistic
    function. -/
def headArray (A : FVec Ideal S200x256x14x14 .f32) (U : FVec Ideal S256x256x2x2 .f32) (D : FVec Ideal S256 .f32)
    (L : FVec Ideal S3x256x1x1 .f32) (E : FVec Ideal S3 .f32) : FVec Ideal S200x3x28x28 .f32 :=
  Host.divf (broadcastInDim S200x3x28x28 ![] bcast_S_S200x3x28x28 (constant S_ .f32 0x3F800000#32)) (addf
    (broadcastInDim S200x3x28x28 ![] bcast_S_S200x3x28x28 (constant S_ .f32 0x3F800000#32)) (Host.exp (Host.negf
    (addf (transpose S200x3x28x28 [1, 0, 2, 3] (Host.dotGeneral dot_S3x256_S200x256x28x28_S3x200x28x28_1_1_0_023_n_n
    none (shapeCast _ L shapeCasts_S3x256x1x1_S3x256) (maximumf (addf (shapeCast _ (transpose S200x256x14x2x14x2 [3,
    0, 4, 1, 5, 2] (Host.dotGeneral dot_S256x256x2x2_S200x256x14x14_S256x2x2x200x14x14_0_1_123_023_n_n none U A)
    transposes_S256x2x2x200x14x14_S200x256x14x2x14x2_3_0_4_1_5_2) shapeCasts_S200x256x14x2x14x2_S200x256x28x28)
    (broadcastInDim S200x256x28x28 ![0, 1, 2, 3] bcast_S1x256x1x1_S200x256x28x28_0_1_2_3 (broadcastInDim S1x256x1x1
    ![1] bcast_S256_S1x256x1x1_1 D))) (broadcastInDim S200x256x28x28 ![] bcast_S_S200x256x28x28 (constant S_ .f32
    0x00000000#32)))) transposes_S3x200x28x28_S200x3x28x28_1_0_2_3) (broadcastInDim S200x3x28x28 ![0, 1, 2, 3]
    bcast_S1x3x1x1_S200x3x28x28_0_1_2_3 (broadcastInDim S1x3x1x1 ![1] bcast_S3_S1x3x1x1_1 E))))))

/-- One element of what the reference makes of the fourth layer is an element of the masks. -/
theorem headArray_apply (A : FVec Ideal S200x256x14x14 .f32) (U : FVec Ideal S256x256x2x2 .f32) (D : FVec Ideal S256 .f32)
    (L : FVec Ideal S3x256x1x1 .f32) (E : FVec Ideal S3 .f32) (n : Fin 200) (j : Fin 3) (h w : Fin 28) :
    headArray A U D L E (ix4 n j h w) = mask (border A) U D L E n j h w := by
  have hb (k : Fin 256) : border A (ix4 n k (⟨h.val / 2 + 1, by omega⟩ : Fin 16) (⟨w.val / 2 + 1, by omega⟩ : Fin 16))
      = A (ix4 n k (⟨h.val / 2, by omega⟩ : Fin 14) (⟨w.val / 2, by omega⟩ : Fin 14)) := by
    refine (border_apply A _ _ _ _).trans (dif_pos (by simp only []; omega))
  unfold mask up
  simp only [hb]
  pointwise [headArray]
  rfl

/-- The reference's result, element by element, in terms of its thirteen arguments. -/
theorem reference_value (x : FVec Ideal Images .f32) (W1 : FVec Ideal Kernel3 .f32) (B1 : FVec Ideal Bias .f32)
    (W2 : FVec Ideal Kernel3 .f32) (B2 : FVec Ideal Bias .f32) (W3 : FVec Ideal Kernel3 .f32) (B3 : FVec Ideal Bias .f32)
    (W4 : FVec Ideal Kernel3 .f32) (B4 : FVec Ideal Bias .f32) (U : FVec Ideal Kernel2 .f32) (D : FVec Ideal Bias .f32)
    (L : FVec Ideal Kernel1 .f32) (E : FVec Ideal Bias3 .f32)
    (h0 : V (Proc.devRef .tc main_arg0) = x) (h1 : V (Proc.devRef .tc main_arg1) = W1)
    (h2 : V (Proc.devRef .tc main_arg2) = B1) (h3 : V (Proc.devRef .tc main_arg3) = W2)
    (h4 : V (Proc.devRef .tc main_arg4) = B2) (h5 : V (Proc.devRef .tc main_arg5) = W3)
    (h6 : V (Proc.devRef .tc main_arg6) = B3) (h7 : V (Proc.devRef .tc main_arg7) = W4)
    (h8 : V (Proc.devRef .tc main_arg8) = B4) (h9 : V (Proc.devRef .tc main_arg9) = U)
    (h10 : V (Proc.devRef .tc main_arg10) = D) (h11 : V (Proc.devRef .tc main_arg11) = L)
    (h12 : V (Proc.devRef .tc main_arg12) = E)
    (n : Fin 200) (j : Fin 3) (h w : Fin 28) :
    headArray (activation (res_main_v235 V) B4) U D L E (ix4 n j h w)
      = mask (layers x W1 B1 W2 B2 W3 B3 W4 B4) U D L E n j h w := by
  subst h0 h1 h2 h3 h4 h5 h6 h7 h8 h9 h10 h11 h12
  rw [← layers_value V]
  exact headArray_apply _ _ _ _ _ n j h w

end Cert.MaskHead

end
-- ==== Proof.Equation.lean ====
/-
  The equation: the kernel and the reference, started with the same arguments, end with the same masks.
-/
module

public import proofs.«01_k».proof.Defs
public import proofs.«01_k».proof.Proof.Result
public import proofs.«01_k».proof.Proof.Reference
public import proofs.«01_k».proof.Proof.Gen.ReferenceIdeal
public import Idealize.ShloMosaic.Lib.Claim

@[expose] public section

set_option maxRecDepth 16384

noncomputable section

namespace Cert.MaskHead

open Idealize.ShloMosaic Idealize.ShloMosaic.TcCoe Idealize.SL.Sem

/-- Over the extended reals the kernel and the reference, run on equal arguments, end with equal results, and neither
    changes an argument. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
    exacts [Cert.KernelIdeal.Gen.W_main_arg0 m _ c,
      Cert.KernelIdeal.Gen.W_main_arg1 m _ c,
      Cert.KernelIdeal.Gen.W_main_arg2 m _ c,
      Cert.KernelIdeal.Gen.W_main_arg3 m _ c,
      Cert.KernelIdeal.Gen.W_main_arg4 m _ c,
      Cert.KernelIdeal.Gen.W_main_arg5 m _ c,
      Cert.KernelIdeal.Gen.W_main_arg6 m _ c,
      Cert.KernelIdeal.Gen.W_main_arg7 m _ c,
      Cert.KernelIdeal.Gen.W_main_arg8 m _ c,
      Cert.KernelIdeal.Gen.W_main_arg9 m _ c,
      Cert.KernelIdeal.Gen.W_main_arg10 m _ c,
      Cert.KernelIdeal.Gen.W_main_arg11 m _ c,
      Cert.KernelIdeal.Gen.W_main_arg12 m _ c]
  · run_from Cert.ReferenceIdeal.Value.run m' g'
    obtain ⟨h0, h1, h2, h3, h4, h5, h6, h7, h8, h9, h10, h11, h12⟩ := hagree c
    refine funext fun i => ?_
    obtain ⟨n, j, h, w, rfl⟩ : ∃ (n : Fin 200) (j : Fin 3) (h w : Fin 28),
        i = (ix4 n j h w : Cert.ReferenceIdeal.S200x3x28x28.Idx) := ⟨i 0, i 1, i 2, i 3, eq_ix4 _⟩
    exact (reference_value (StableHlo.launchContents m' c) (images m c) (weights1 m c) (bias1 m c) (weights2 m c)
      (bias2 m c) (weights3 m c) (bias3 m c) (weights4 m c) (bias4 m c) (weightsUp m c) (biasUp m c) (weightsLast m c)
      (biasLast m c) h0 h1 h2 h3 h4 h5 h6 h7 h8 h9 h10 h11 h12 n j h w).trans (kernel_value m c n j h w).symm

end Cert.MaskHead

end
-- ==== Proof.lean ====
/-
  The claim about the mask head's kernel: the kernel and the reference end with their arguments unchanged and every
  counter at zero, and over the extended reals their results are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The whole claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Idealize.ShloMosaic.θ_run_mono (Cert.ReferenceIdeal.Value.run m ρ)
      fun r h => ⟨fun c => (h c).2, sem_eq_zero_of_no_sems rfl r.2⟩, trivial,
    Cert.MaskHead.algebraic⟩

end Cert.Proof

end
